-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_rows_normalisable [hPre_rows_normalisable : Cert.Pre_rows_normalisable.Facts] (m : (ℓ : Loc Cert.KernelIdeal.nD Cert.KernelIdeal.τ Cert.KernelIdeal.sig) → Buf (Elt Ideal) ℓ) : Prop :=
  ∀ c : Dev Cert.KernelIdeal.nD,
    (Cert.Pre_rows_normalisable.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rows_normalisable [hPre_rows_normalisable : Cert.Pre_rows_normalisable.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rows_normalisable.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_rows_normalisable [hKernelIdeal : Cert.KernelIdeal.Facts] [hPre_rows_normalisable : Cert.Pre_rows_normalisable.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rows_normalisable m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_rows_normalisable [hReferenceIdeal : Cert.ReferenceIdeal.Facts] [hPre_rows_normalisable : Cert.Pre_rows_normalisable.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rows_normalisable m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_rows_normalisable [hKernelIdeal : Cert.KernelIdeal.Facts] [hReferenceIdeal : Cert.ReferenceIdeal.Facts] [hPre_rows_normalisable : Cert.Pre_rows_normalisable.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rows_normalisable m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_rows_normalisable : Cert.Pre_rows_normalisable.Facts),
    quiescent_Kernel (hKernel := hKernel)
    ∧ quiescent_KernelIdeal (hKernelIdeal := hKernelIdeal)
    ∧ quiescent_KernelIdeal_pre_rows_normalisable (hKernelIdeal := hKernelIdeal) (hPre_rows_normalisable := hPre_rows_normalisable)
    ∧ quiescent_ReferenceIdeal (hReferenceIdeal := hReferenceIdeal)
    ∧ quiescent_ReferenceIdeal_pre_rows_normalisable (hReferenceIdeal := hReferenceIdeal) (hPre_rows_normalisable := hPre_rows_normalisable)
    ∧ preserves_Kernel_KernelIdeal
    ∧ algebraic_KernelIdeal_ReferenceIdeal_pre_rows_normalisable (hKernelIdeal := hKernelIdeal) (hReferenceIdeal := hReferenceIdeal) (hPre_rows_normalisable := hPre_rows_normalisable)
-- ==== Pre_rows_normalisable.lean ====
abbrev S2048x2x512 : Shape := ⟨3, ![2048, 2, 512]⟩
abbrev S_ : Shape := ⟨0, ![]⟩
abbrev S2048x2 : Shape := ⟨2, ![2048, 2]⟩

class Facts : Prop where
  reducesTo_S2048x2x512_S2048x2_d2 : S2048x2x512.ReducesTo [2] S2048x2
  h_S_ : 0 < S_.numel
  bcast_S_S2048x2 : S_.BroadcastsInDim S2048x2 (![] : Fin 0 → Fin S2048x2.rank)

variable [Facts]

def fn {F : FTy → Type} [FloatOps F] (main_arg0 : FVec F S2048x2x512 .f32) : IVec S2048x2 1 :=
  let main_v0 : FVec F S2048x2x512 .f32 := mulf main_arg0 main_arg0
  let main_cst : FVec F S_ .f32 := constant S_ .f32 0x00000000#32
  let main_v1 : FVec F S2048x2 .f32 := (fun x v => Host.reduceAdd x v reducesTo_S2048x2x512_S2048x2_d2 h_S_) main_v0 main_cst
  let main_cst_0 : FVec F S_ .f32 := constant S_ .f32 0x179ABE15#32
  let main_v2 : FVec F S2048x2 .f32 := broadcastInDim S2048x2 ![] bcast_S_S2048x2 main_cst_0
  let main_v3 : IVec S2048x2 1 := cmpf .oge main_v1 main_v2
  let main_cst_1 : FVec F S_ .f32 := constant S_ .f32 0x7F800000#32
  let main_v4 : FVec F S2048x2 .f32 := broadcastInDim S2048x2 ![] bcast_S_S2048x2 main_cst_1
  let main_v5 : IVec S2048x2 1 := cmpf .olt main_v1 main_v4
  let main_v6 : IVec S2048x2 1 := andi main_v3 main_v5
  main_v6
-- ==== Kernel.lean ====
abbrev S2048x2x512 : Shape := ⟨3, ![2048, 2, 512]⟩
abbrev S1x1 : Shape := ⟨2, ![1, 1]⟩
abbrev S256x2x512 : Shape := ⟨3, ![256, 2, 512]⟩
abbrev S2048x512 : Shape := ⟨2, ![2048, 512]⟩
abbrev S2048x1 : Shape := ⟨2, ![2048, 1]⟩
abbrev S256x1x512 : Shape := ⟨3, ![256, 1, 512]⟩
abbrev S256x512 : Shape := ⟨2, ![256, 512]⟩
abbrev S256 : Shape := ⟨1, ![256]⟩
abbrev S256x1 : Shape := ⟨2, ![256, 1]⟩
abbrev S256x2048 : Shape := ⟨2, ![256, 2048]⟩
abbrev S1 : Shape := ⟨1, ![1]⟩
abbrev S_ : Shape := ⟨0, ![]⟩

abbrev nBuf : Space → Nat
  | .hbm => 3
  | .vmem => 6
  | .smem => 0
  | _ => 0

abbrev bufTy : (tb : Table) → Fin (tcTables nBuf tb) → BufTy
  | .hbm, ⟨0, _⟩ => ⟨S2048x2x512, .f32⟩
  | .hbm, ⟨1, _⟩ => ⟨S1x1, .f32⟩
  | .hbm, ⟨2, _⟩ => ⟨S_, .f32⟩
  | .local _ .vmem, ⟨0, _⟩ => ⟨S256x2x512, .f32⟩
  | .local _ .vmem, ⟨1, _⟩ => ⟨S256x2x512, .f32⟩
  | .local _ .vmem, ⟨2, _⟩ => ⟨S1x1, .f32⟩
  | .local _ .vmem, ⟨3, _⟩ => ⟨S2048x512, .bf16⟩
  | .local _ .vmem, ⟨4, _⟩ => ⟨S2048x512, .bf16⟩
  | .local _ .vmem, ⟨5, _⟩ => ⟨S2048x1, .f32⟩
  | _, _ => ⟨S2048x2x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_sem0_0 : DmaSem sig := 0
abbrev cc0_sem0_1 : DmaSem sig := 1
abbrev cc0_sem1_0 : DmaSem sig := 2

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg0 : BitVec 32 := BitVec.ofNat 32 (i 0).val
  let c0_i32_2 : BitVec 32 := 0#32
  let v5 : BitVec 1 := Scalar.cmpi .eq arg0 c0_i32_2
  let v6 : BitVec 32 := Scalar.extui v5
  let c0_i32_3 : BitVec 32 := 0#32
  let v7 : BitVec 1 := Scalar.cmpi .ne v6 c0_i32_3
  v7

def k0_off1 (i : grid0.Coords) : Fin 2 → Nat :=
  let arg1 : BitVec 32 := BitVec.ofNat 32 (i 1).val
  let c256_i32 : BitVec 32 := 256#32
  let v32 : BitVec 32 := Scalar.muli arg1 c256_i32
  let v33 : Index := Scalar.indexCast v32
  let c0_12 : Index := 0#32
  ![v33.toNat, 0]
def k0_off2 (i : grid0.Coords) : Fin 2 → Nat :=
  let arg1 : BitVec 32 := BitVec.ofNat 32 (i 1).val
  let c256_i32_17 : BitVec 32 := 256#32
  let v49 : BitVec 32 := Scalar.muli arg1 c256_i32_17
  let v50 : Index := Scalar.indexCast v49
  let c0_18 : Index := 0#32
  ![v50.toNat, 0]
def k0_cond3 (i : grid0.Coords) : BitVec 1 :=
  let arg0 : BitVec 32 := BitVec.ofNat 32 (i 0).val
  let c1_i32 : BitVec 32 := 1#32
  let v8 : BitVec 1 := Scalar.cmpi .eq arg0 c1_i32
  let v9 : BitVec 32 := Scalar.extui v8
  let c0_i32_4 : BitVec 32 := 0#32
  let v10 : BitVec 1 := Scalar.cmpi .ne v9 c0_i32_4
  v10

def k0_off3 (i : grid0.Coords) : Fin 2 → Nat :=
  let arg1 : BitVec 32 := BitVec.ofNat 32 (i 1).val
  let c256_i32 : BitVec 32 := 256#32
  let v11 : BitVec 32 := Scalar.muli arg1 c256_i32
  let v12 : Index := Scalar.indexCast v11
  let c0 : Index := 0#32
  ![v12.toNat, 0]
def k0_off4 (i : grid0.Coords) : Fin 2 → Nat :=
  let arg1 : BitVec 32 := BitVec.ofNat 32 (i 1).val
  let c256_i32_13 : BitVec 32 := 256#32
  let v32 : BitVec 32 := Scalar.muli arg1 c256_i32_13
  let v33 : Index := Scalar.indexCast v32
  let c0_14 : Index := 0#32
  ![v33.toNat, 0]
def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg0
  let v1 : BitVec 32 := Scalar.muli arg1 v0
  let c7_i32 : BitVec 32 := 7#32
  let v2 : BitVec 32 := Scalar.muli c7_i32 arg0
  let v3 : BitVec 32 := Scalar.addi v1 v2
  let c0_i32 : BitVec 32 := 0#32
  let c0_i32_0 : BitVec 32 := 0#32
  let c0_i32_1 : BitVec 32 := 0#32
  ![v3.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]
-- ==== ReferenceIdeal.lean ====
abbrev S2048x2x512 : Shape := ⟨3, ![2048, 2, 512]⟩
abbrev S2048x1x512 : Shape := ⟨3, ![2048, 1, 512]⟩
abbrev S2048x512 : Shape := ⟨2, ![2048, 512]⟩
abbrev S_ : Shape := ⟨0, ![]⟩
abbrev S2048 : Shape := ⟨1, ![2048]⟩
abbrev S2048x1 : Shape := ⟨2, ![2048, 1]⟩
abbrev S512x2048 : Shape := ⟨2, ![512, 2048]⟩
abbrev S2048x2048 : Shape := ⟨2, ![2048, 2048]⟩
abbrev S1x2048 : Shape := ⟨2, ![1, 2048]⟩

abbrev nBuf : Space → Nat
  | .hbm => 97
  | .vmem => 0
  | .smem => 0
  | _ => 0

abbrev bufTy : (tb : Table) → Fin (tcTables nBuf tb) → BufTy
  | .hbm, ⟨0, _⟩ => ⟨S2048x2x512, .f32⟩
  | .hbm, ⟨1, _⟩ => ⟨S2048x1x512, .f32⟩
  | .hbm, ⟨2, _⟩ => ⟨S2048x512, .f32⟩
  | .hbm, ⟨3, _⟩ => ⟨S2048x1x512, .f32⟩
  | .hbm, ⟨4, _⟩ => ⟨S2048x512, .f32⟩
  | .hbm, ⟨5, _⟩ => ⟨S2048x512, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x512, .f32⟩
  | .hbm, ⟨14, _⟩ => ⟨S2048x512, .f32⟩
  | .hbm, ⟨15, _⟩ => ⟨S2048x512, .f32⟩
  | .hbm, ⟨16, _⟩ => ⟨S_, .f32⟩
  | .hbm, ⟨17, _⟩ => ⟨S2048, .f32⟩
  | .hbm, ⟨18, _⟩ => ⟨S2048x1, .f32⟩
  | .hbm, ⟨19, _⟩ => ⟨S2048x1, .f32⟩
  | .hbm, ⟨20, _⟩ => ⟨S_, .f32⟩
  | .hbm, ⟨21, _⟩ => ⟨S2048x1, .f32⟩
  | .hbm, ⟨22, _⟩ => ⟨S2048x1, .f32⟩
  | .hbm, ⟨23, _⟩ => ⟨S2048x512, .f32⟩
  | .hbm, ⟨24, _⟩ => ⟨S2048x512, .f32⟩
  | .hbm, ⟨25, _⟩ => ⟨S2048x512, .f32⟩
  | .hbm, ⟨26, _⟩ => ⟨S_, .f32⟩
  | .hbm, ⟨27, _⟩ => ⟨S2048, .f32⟩
  | .hbm, ⟨28, _⟩ => ⟨S2048x512, .f32⟩
  | .hbm, ⟨29, _⟩ => ⟨S_, .f32⟩
  | .hbm, ⟨30, _⟩ => ⟨S2048, .f32⟩
  | .hbm, ⟨31, _⟩ => ⟨S512x2048, .f32⟩
  | .hbm, ⟨32, _⟩ => ⟨S2048x2048, .f32⟩
  | .hbm, ⟨33, _⟩ => ⟨S2048x1, .f32⟩
  | .hbm, ⟨34, _⟩ => ⟨S1x2048, .f32⟩
  | .hbm, ⟨35, _⟩ => ⟨S2048x2048, .f32⟩
  | .hbm, ⟨36, _⟩ => ⟨S2048x2048, .f32⟩
  | .hbm, ⟨37, _⟩ => ⟨S2048x2048, .f32⟩
  | .hbm, ⟨38, _⟩ => ⟨S_, .f32⟩
  | .hbm, ⟨39, _⟩ => ⟨S2048x2048, .f32⟩
  | .hbm, ⟨40, _⟩ => ⟨S2048x2048, .f32⟩
  | .hbm, ⟨41, _⟩ => ⟨S2048x2048, .f32⟩
  | .hbm, ⟨42, _⟩ => ⟨S_, .f32⟩
  | .hbm, ⟨43, _⟩ => ⟨S2048x2048, .f32⟩
  | .hbm, ⟨44, _⟩ => ⟨S2048x2048, .f32⟩
  | .hbm, ⟨45, _⟩ => ⟨S2048x2048, .f32⟩
  | .hbm, ⟨46, _⟩ => ⟨S2048x2048, .f32⟩
  | .hbm, ⟨47, _⟩ => ⟨S2048x2048, .i32⟩
  | .hbm, ⟨48, _⟩ => ⟨S2048x2048, .i32⟩
  | .hbm, ⟨49, _⟩ => ⟨S_, .i32⟩
  | .hbm, ⟨50, _⟩ => ⟨S2048x2048, .i32⟩
  | .hbm, ⟨51, _⟩ => ⟨S2048x2048, .i32⟩
  | .hbm, ⟨52, _⟩ => ⟨S2048x2048, .i1⟩
  | .hbm, ⟨53, _⟩ => ⟨S_, .f32⟩
  | .hbm, ⟨54, _⟩ => ⟨S_, .f32⟩
  | .hbm, ⟨55, _⟩ => ⟨S2048x2048, .f32⟩
  | .hbm, ⟨56, _⟩ => ⟨S2048x2048, .f32⟩
  | .hbm, ⟨57, _⟩ => ⟨S2048x2048, .i32⟩
  | .hbm, ⟨58, _⟩ => ⟨S_, .f32⟩
  | .hbm, ⟨59, _⟩ => ⟨S_, .i32⟩
  | .hbm, ⟨60, _⟩ => ⟨S2048, .f32⟩
  | .hbm, ⟨61, _⟩ => ⟨S2048, .i32⟩
  | .hbm, ⟨62, _⟩ => ⟨S_, .i32⟩
  | .hbm, ⟨63, _⟩ => ⟨S2048, .i32⟩
  | .hbm, ⟨64, _⟩ => ⟨S2048, .i1⟩
  | .hbm, ⟨65, _⟩ => ⟨S_, .i32⟩
  | .hbm, ⟨66, _⟩ => ⟨S2048, .i32⟩
  | .hbm, ⟨67, _⟩ => ⟨S2048, .i32⟩
  | .hbm, ⟨68, _⟩ => ⟨S2048, .i32⟩
  | .hbm, ⟨69, _⟩ => ⟨S2048x1, .i32⟩
  | .hbm, ⟨70, _⟩ => ⟨S2048x512, .f32⟩
  | .hbm, ⟨71, _⟩ => ⟨S2048x512, .f32⟩
  | .hbm, ⟨72, _⟩ => ⟨S_, .f32⟩
  | .hbm, ⟨73, _⟩ => ⟨S2048x512, .f32⟩
  | .hbm, ⟨74, _⟩ => ⟨S2048x512, .f32⟩
  | .hbm, ⟨75, _⟩ => ⟨S2048x512, .f32⟩
  | .hbm, ⟨76, _⟩ => ⟨S_, .f32⟩
  | .hbm, ⟨77, _⟩ => ⟨S2048, .f32⟩
  | .hbm, ⟨78, _⟩ => ⟨S2048, .f32⟩
  | .hbm, ⟨79, _⟩ => ⟨S2048x512, .f32⟩
  | .hbm, ⟨80, _⟩ => ⟨S2048x512, .f32⟩
  | .hbm, ⟨81, _⟩ => ⟨S_, .f32⟩
  | .hbm, ⟨82, _⟩ => ⟨S2048, .f32⟩
  | .hbm, ⟨83, _⟩ => ⟨S2048, .f32⟩
  | .hbm, ⟨84, _⟩ => ⟨S2048, .f32⟩
  | .hbm, ⟨85, _⟩ => ⟨S2048, .f32⟩
  | .hbm, ⟨86, _⟩ => ⟨S2048, .f32⟩
  | .hbm, ⟨87, _⟩ => ⟨S_, .f32⟩
  | .hbm, ⟨88, _⟩ => ⟨S2048, .f32⟩
  | .hbm, ⟨89, _⟩ => ⟨S2048, .f32⟩
  | .hbm, ⟨90, _⟩ => ⟨S_, .f32⟩
  | .hbm, ⟨91, _⟩ => ⟨S2048, .f32⟩
  | .hbm, ⟨92, _⟩ => ⟨S2048, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | _, _ => ⟨S2048x2x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_call0_v0 : Ref sig .tc := ⟨.hbm, 5, rfl⟩
abbrev main_call0_cst : Ref sig .tc := ⟨.hbm, 6, rfl⟩
abbrev main_call0_v1 : Ref sig .tc := ⟨.hbm, 7, rfl⟩
abbrev main_call0_v2 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_call1_v0 : Ref sig .tc := ⟨.hbm, 15, rfl⟩
abbrev main_call1_cst : Ref sig .tc := ⟨.hbm, 16, rfl⟩
abbrev main_call1_v1 : Ref sig .tc := ⟨.hbm, 17, rfl⟩
abbrev main_call1_v2 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_4 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_c : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_5 : Ref sig .tc := ⟨.hbm, 53, rfl⟩
abbrev main_call2_v0 : Ref sig .tc := ⟨.hbm, 54, rfl⟩
abbrev main_call2_v1 : Ref sig .tc := ⟨.hbm, 55, rfl⟩
abbrev main_v37 : Ref sig .tc := ⟨.hbm, 56, rfl⟩
abbrev main_call3_v0 : Ref sig .tc := ⟨.hbm, 57, rfl⟩
abbrev main_call3_cst : Ref sig .tc := ⟨.hbm, 58, rfl⟩
abbrev main_call3_c : Ref sig .tc := ⟨.hbm, 59, rfl⟩
abbrev main_call3_v1_0 : Ref sig .tc := ⟨.hbm, 60, rfl⟩
abbrev main_v38 : Ref sig .tc := ⟨.hbm, 61, rfl⟩
abbrev main_c_6 : Ref sig .tc := ⟨.hbm, 62, rfl⟩
abbrev main_v39 : Ref sig .tc := ⟨.hbm, 63, rfl⟩
abbrev main_v40 : Ref sig .tc := ⟨.hbm, 64, rfl⟩
abbrev main_c_7 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_8 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_cst_9 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_cst_10 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_11 : Ref sig .tc := ⟨.hbm, 87, rfl⟩
abbrev main_v59 : Ref sig .tc := ⟨.hbm, 88, rfl⟩
abbrev main_v60 : Ref sig .tc := ⟨.hbm, 89, rfl⟩
abbrev main_call4_cst : Ref sig .tc := ⟨.hbm, 90, rfl⟩
abbrev main_call4_v0 : Ref sig .tc := ⟨.hbm, 91, rfl⟩
abbrev main_v61 : Ref sig .tc := ⟨.hbm, 92, rfl⟩
abbrev main_cst_12 : Ref sig .tc := ⟨.hbm, 93, rfl⟩
abbrev main_v62 : Ref sig .tc := ⟨.hbm, 94, rfl⟩
abbrev main_cst_13 : Ref sig .tc := ⟨.hbm, 95, rfl⟩
abbrev main_v63 : Ref sig .tc := ⟨.hbm, 96, rfl⟩

abbrev nD : Nat := 1
abbrev τ : Topo := Topo.v7x

variable {F : FTy → Type} [FloatOps F]
-- ==== Proof.Put.lean ====
/- Overwriting a rectangle of an array, as a function of the array: what one unmasked store leaves. -/
module

public import Idealize.ShloMosaic.Lib.Ring
public import Idealize.ShloMosaic.Lib.Tactic
public import Idealize.ShloMosaic.Lib.Pipeline.FrameBody

@[expose] public section

noncomputable section

namespace Cert.Put

open Idealize.ShloMosaic

variable {s : Shape} {e : EltTy} {Val : EltTy → Type}

/-- The array `f` with the rectangle `r` overwritten by `w`. -/
def put (r : Rect s) (w : r.shape.Idx → Val e) (f : s.Idx → Val e) : s.Idx → Val e :=
  open Classical in fun y => if h : ∃ x, r.emb x = y then w h.choose else f y

theorem put_hit (r : Rect s) (w : r.shape.Idx → Val e) (f : s.Idx → Val e) (x : r.shape.Idx) (y : s.Idx)
    (hx : ∀ a, (y a).val = r.off a + r.stride a * (x a).val) : put r w f y = w x := by
  have hy : ∃ x, r.emb x = y := ⟨x, r.emb_eq_of_coords x y hx⟩
  unfold put
  rw [dif_pos hy]
  exact congrArg w (r.emb.injective (hy.choose_spec.trans (r.emb_eq_of_coords x y hx).symm))

theorem put_miss (r : Rect s) (w : r.shape.Idx → Val e) (f : s.Idx → Val e) (y : s.Idx) (hy : y ∉ r.set) :
    put r w f y = f y := by
  unfold put
  rw [dif_neg]
  rintro ⟨x, rfl⟩
  exact hy (r.map_emb_univ ▸ Finset.mem_map_of_mem r.emb (Finset.mem_univ x))

/-- A buffer written once reads as its former contents with that rectangle overwritten. -/
theorem read_writes_put {sig : RefSig} {κ : Kind} {sp : Space} (v : View sig κ sp s e) (g : v.ty.Contents Val)
    (r : Rect s) (w : r.shape.Idx → Val e) :
    v.read Val (v.writes Val g [⟨r, w⟩]) = put r w (v.read Val g) := by
  funext y
  by_cases hy : y ∈ r.set
  · obtain ⟨x, rfl⟩ : ∃ x, r.emb x = y := r.exists_idx_of_mem hy
    rw [View.read_writes_cons_emb]
    unfold put
    rw [dif_pos ⟨x, rfl⟩]
    exact congrArg w (r.emb.injective (Exists.choose_spec (p := fun z => r.emb z = r.emb x) _)).symm
  · rw [View.read_writes_cons_miss _ _ _ _ _ hy, put_miss r w _ y hy]
    rfl

end Cert.Put
-- ==== Proof.BodyI.lean ====
/- The kernel body at each kind of grid point, on any whole buffers: what it leaves in the output and in the three
   buffers it keeps between points. Phase 0 (`run_first`, `run_fill`) fills one band of rows of each of the three;
   phase 1 (`run_sum`) reads them and adds one number to the output. -/
module

public import proofs.«01_k».proof.Proof.Gen.KernelIdeal.Frame
public import proofs.«01_k».proof.Proof.Gen.KernelIdeal.Skeleton
public import proofs.«01_k».proof.Proof.Put

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.Put

variable {F : FTy → Type} [FloatOps F]

local notation "𝕄" => MT nD τ sig Unit (Elt F) ℕ (UR sig nD τ) ℕ

/-- The two planes of a block of pairs of rows, as the body loads them. -/
abbrev rectA : Rect S256x2x512 := Rect.unit (s := S256x2x512) ![0, 0, 0] S256x1x512.size inb_S256x2x512_S256x1x512_0_0_0
abbrev rectP : Rect S256x2x512 := Rect.unit (s := S256x2x512) ![0, 1, 0] S256x1x512.size inb_S256x2x512_S256x1x512_0_1_0
def planeA (x : Vec F S256x2x512 .f32) : Vec F S256x1x512 .f32 := View.ld x rectA
def planeP (x : Vec F S256x2x512 .f32) : Vec F S256x1x512 .f32 := View.ld x rectP

/-- The band of rows the body stores into (phase 0) and loads (phase 1). -/
abbrev band1 (i : grid0.Coords) (h2 : k0_cond2 i = 1#1) : Rect S2048x512 :=
  Rect.unit (s := S2048x512) (k0_off1 i) S256x512.size (k0_off1_inb i h2)
abbrev band2 (i : grid0.Coords) (h2 : k0_cond2 i = 1#1) : Rect S2048x1 :=
  Rect.unit (s := S2048x1) (k0_off2 i) S256x1.size (k0_off2_inb i h2)
abbrev band3 (i : grid0.Coords) (h3 : k0_cond3 i = 1#1) : Rect S2048x512 :=
  Rect.unit (s := S2048x512) (k0_off3 i) S256x512.size (k0_off3_inb i h3)
abbrev band4 (i : grid0.Coords) (h3 : k0_cond3 i = 1#1) : Rect S2048x1 :=
  Rect.unit (s := S2048x1) (k0_off4 i) S256x1.size (k0_off4_inb i h3)

/-- The whole-array rectangles. -/
theorem read_writes_one {κ : Kind} {sp : Space} (v : View sig κ sp S1x1 .f32) (g : v.ty.Contents (Elt F))
    (inb : ∀ a, (![0, 0] : Fin 2 → ℕ) a + S1x1.size a ≤ S1x1.size a) (w : S1x1.Idx → Elt F .f32) (L : List (View.Piece (Elt F) S1x1 .f32)) :
    v.read (Elt F) (v.writes (Elt F) g (⟨Rect.unit (s := S1x1) ![0, 0] S1x1.size inb, w⟩ :: L)) = w := by
  funext y
  refine View.read_writes_cons_hit_of_coords v g (Rect.unit (s := S1x1) ![0, 0] S1x1.size inb) w L y y fun a => ?_
  match a with
  | 0 => show (y 0).val = 0 + 1 * (y 0).val; omega
  | 1 => show (y 1).val = 0 + 1 * (y 1).val; omega

theorem ld_all1x1 (f : Vec F S1x1 .f32) (inb : ∀ a, (![0, 0] : Fin 2 → ℕ) a + S1x1.size a ≤ S1x1.size a) :
    View.ld f (Rect.unit (s := S1x1) ![0, 0] S1x1.size inb) = f := by
  funext y
  refine congrArg f (funext fun a => Fin.ext ?_)
  match a with
  | 0 => show 0 + 1 * (y 0).val = (y 0).val; omega
  | 1 => show 0 + 1 * (y 1).val = (y 1).val; omega

theorem ld_all2048x512 (f : Vec F S2048x512 .bf16) (inb : ∀ a, (![0, 0] : Fin 2 → ℕ) a + S2048x512.size a ≤ S2048x512.size a) :
    View.ld f (Rect.unit (s := S2048x512) ![0, 0] S2048x512.size inb) = f := by
  funext y
  refine congrArg f (funext fun a => Fin.ext ?_)
  match a with
  | 0 => show 0 + 1 * (y 0).val = (y 0).val; omega
  | 1 => show 0 + 1 * (y 1).val = (y 1).val; omega

set_option maxHeartbeats 1600000 in
/-- Phase 0 past the first point: one band of each kept buffer is filled; the output is not touched. -/
theorem run_fill (c : Dev nD) (i : grid0.Coords) (arg2 : Memref sig .tc .vmem S256x2x512 .f32) (harg2 : arg2.IsWhole) (arg3 : Memref sig .tc .vmem S1x1 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S2048x1 .f32) (harg6 : arg6.IsWhole)
    (h1 : ¬ k0_cond1 i = 1#1) (h2 : k0_cond2 i = 1#1) (h3 : ¬ k0_cond3 i = 1#1)
    (x : Vec F S256x2x512 .f32) (fa fp : Vec F S2048x512 .bf16) (fs : Vec F S2048x1 .f32) (E : Set ℕ) (K : PUnit → sProp 𝕄) :
    iprop(owns (c : Thread nD τ) arg2 fullShare x ∗ owns (c : Thread nD τ) arg4 fullShare fa
        ∗ owns (c : Thread nD τ) arg5 fullShare fp ∗ owns (c : Thread nD τ) arg6 fullShare fs
        ∗ (iprop(owns (c : Thread nD τ) arg2 fullShare x
            ∗ owns (c : Thread nD τ) arg4 fullShare (put (band1 i h2) (k0_pay6 (planeA x)) fa)
            ∗ owns (c : Thread nD τ) arg5 fullShare (put (band1 i h2) (k0_pay7 (planeP x)) fp)
            ∗ owns (c : Thread nD τ) arg6 fullShare (put (band2 i h2) (k0_pay2 (k0_pay8 (planeA x) (planeP x))) fs)) -∗ K ⟨⟩))
      ⊢ wp frame (wpE (defs₀ (F := F)) Variants.none c none) E (cc0__body i arg2 harg2 arg3 harg3 arg4 harg4 arg5 harg5 arg6 harg6) K := by
  simp only [cc0__body_eq_skeleton]; unfold cc0__body_skel
  simp only [k0_part1_eq_skeleton]
  unfold owns
  iintro ⟨⟨%f2, %hf2, H2⟩, ⟨%f4, %hf4, H4⟩, ⟨%f5, %hf5, H5⟩, ⟨%f6, %hf6, H6⟩, Hk⟩
  obtain rfl := harg2.eq_unread hf2
  sl_exec (disch := first | sl_exact h1 | sl_exact h2 | sl_exact h3)
  sl_step
  iapply Hk
  isplitl [H2]
  · iexists _; isplitr; · ipureintro; exact harg2.read_unread _
    iexact H2
  isplitl [H4]
  · iexists _; isplitr
    swap; · iexact H4
    ipureintro
    rw [read_writes_put, hf4]
    simp only [planeA, View.readAt_eq_ld, harg2.read_unread]
  isplitl [H5]
  · iexists _; isplitr
    swap; · iexact H5
    ipureintro
    rw [read_writes_put, hf5]
    simp only [planeP, View.readAt_eq_ld, harg2.read_unread]
  iexists _; isplitr
  swap; · iexact H6
  ipureintro
  rw [read_writes_put, hf6]
  sl_unfold_run_names
  simp only [planeA, planeP, View.readAt_eq_ld, harg2.read_unread]

set_option maxHeartbeats 1600000 in
/-- Phase 0's first point: the output is set to zero, then the same. -/
theorem run_first (c : Dev nD) (i : grid0.Coords) (arg2 : Memref sig .tc .vmem S256x2x512 .f32) (harg2 : arg2.IsWhole) (arg3 : Memref sig .tc .vmem S1x1 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S2048x1 .f32) (harg6 : arg6.IsWhole)
    (h1 : k0_cond1 i = 1#1) (h2 : k0_cond2 i = 1#1) (h3 : ¬ k0_cond3 i = 1#1)
    (x : Vec F S256x2x512 .f32) (fa fp : Vec F S2048x512 .bf16) (fs : Vec F S2048x1 .f32) (E : Set ℕ) (K : PUnit → sProp 𝕄) :
    iprop(owns (c : Thread nD τ) arg2 fullShare x ∗ (∃ d, owns (c : Thread nD τ) arg3 fullShare d) ∗ owns (c : Thread nD τ) arg4 fullShare fa
        ∗ owns (c : Thread nD τ) arg5 fullShare fp ∗ owns (c : Thread nD τ) arg6 fullShare fs
        ∗ (iprop(owns (c : Thread nD τ) arg2 fullShare x ∗ owns (c : Thread nD τ) arg3 fullShare (k0_pay1 (F := F))
            ∗ owns (c : Thread nD τ) arg4 fullShare (put (band1 i h2) (k0_pay6 (planeA x)) fa)
            ∗ owns (c : Thread nD τ) arg5 fullShare (put (band1 i h2) (k0_pay7 (planeP x)) fp)
            ∗ owns (c : Thread nD τ) arg6 fullShare (put (band2 i h2) (k0_pay2 (k0_pay8 (planeA x) (planeP x))) fs)) -∗ K ⟨⟩))
      ⊢ wp frame (wpE (defs₀ (F := F)) Variants.none c none) E (cc0__body i arg2 harg2 arg3 harg3 arg4 harg4 arg5 harg5 arg6 harg6) K := by
  simp only [cc0__body_eq_skeleton]; unfold cc0__body_skel
  simp only [k0_part1_eq_skeleton]
  unfold owns
  iintro ⟨⟨%f2, %hf2, H2⟩, ⟨%d3, %f3, -, H3⟩, ⟨%f4, %hf4, H4⟩, ⟨%f5, %hf5, H5⟩, ⟨%f6, %hf6, H6⟩, Hk⟩
  obtain rfl := harg2.eq_unread hf2
  sl_exec (disch := first | sl_exact h1 | sl_exact h2 | sl_exact h3)
  sl_step
  iapply Hk
  isplitl [H2]
  · iexists _; isplitr; · ipureintro; exact harg2.read_unread _
    iexact H2
  isplitl [H3]
  · iexists _; isplitr
    swap; · iexact H3
    ipureintro
    exact read_writes_one _ _ _ _ _
  isplitl [H4]
  · iexists _; isplitr
    swap; · iexact H4
    ipureintro
    rw [read_writes_put, hf4]
    simp only [planeA, View.readAt_eq_ld, harg2.read_unread]
  isplitl [H5]
  · iexists _; isplitr
    swap; · iexact H5
    ipureintro
    rw [read_writes_put, hf5]
    simp only [planeP, View.readAt_eq_ld, harg2.read_unread]
  iexists _; isplitr
  swap; · iexact H6
  ipureintro
  rw [read_writes_put, hf6]
  sl_unfold_run_names
  simp only [planeA, planeP, View.readAt_eq_ld, harg2.read_unread]

set_option maxHeartbeats 1600000 in
/-- Phase 1: the band of rows of the first and third kept buffers and all of the second are read, and the output
    goes from `o` to the sum stored. -/
theorem run_sum (c : Dev nD) (i : grid0.Coords) (arg2 : Memref sig .tc .vmem S256x2x512 .f32) (harg2 : arg2.IsWhole) (arg3 : Memref sig .tc .vmem S1x1 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S2048x1 .f32) (harg6 : arg6.IsWhole)
    (h1 : ¬ k0_cond1 i = 1#1) (h2 : ¬ k0_cond2 i = 1#1) (h3 : k0_cond3 i = 1#1)
    (o : Vec F S1x1 .f32) (fa fp : Vec F S2048x512 .bf16) (fs : Vec F S2048x1 .f32) (E : Set ℕ) (K : PUnit → sProp 𝕄) :
    iprop(owns (c : Thread nD τ) arg3 fullShare o ∗ owns (c : Thread nD τ) arg4 fullShare fa
        ∗ owns (c : Thread nD τ) arg5 fullShare fp ∗ owns (c : Thread nD τ) arg6 fullShare fs
        ∗ (iprop(owns (c : Thread nD τ) arg3 fullShare (k0_pay3 i (View.ld fa (band3 i h3)) fp (View.ld fs (band4 i h3)) o)
            ∗ owns (c : Thread nD τ) arg4 fullShare fa
            ∗ owns (c : Thread nD τ) arg5 fullShare fp
            ∗ owns (c : Thread nD τ) arg6 fullShare fs) -∗ K ⟨⟩))
      ⊢ wp frame (wpE (defs₀ (F := F)) Variants.none c none) E (cc0__body i arg2 harg2 arg3 harg3 arg4 harg4 arg5 harg5 arg6 harg6) K := by
  simp only [cc0__body_eq_skeleton]; unfold cc0__body_skel
  simp only [k0_part1_eq_skeleton]
  unfold owns
  iintro ⟨⟨%f3, %hf3, H3⟩, ⟨%f4, %hf4, H4⟩, ⟨%f5, %hf5, H5⟩, ⟨%f6, %hf6, H6⟩, Hk⟩
  obtain rfl := harg3.eq_unread hf3
  obtain rfl := harg4.eq_unread hf4
  obtain rfl := harg5.eq_unread hf5
  obtain rfl := harg6.eq_unread hf6
  sl_exec (disch := first | sl_exact h1 | sl_exact h2 | sl_exact h3)
  sl_step
  iapply Hk
  isplitl [H3]
  · iexists _; isplitr
    swap; · iexact H3
    ipureintro
    rw [read_writes_one]
    sl_unfold_run_names
    simp only [View.readAt_eq_ld, harg3.read_unread, harg4.read_unread, harg5.read_unread, harg6.read_unread]
    rw [ld_all2048x512, ld_all1x1]
  isplitl [H4]
  · iexists _; isplitr; · ipureintro; exact harg4.read_unread _
    iexact H4
  isplitl [H5]
  · iexists _; isplitr; · ipureintro; exact harg5.read_unread _
    iexact H5
  iexists _; isplitr; · ipureintro; exact harg6.read_unread _
  iexact H6

end Cert.KernelIdeal.Hand
-- ==== Proof.RunI.lean ====
/- The launch: what the three kept buffers and the output hold at each grid point, the body obligation at a point, and
   the run of @main with every counter back at zero. -/
module

public import proofs.«01_k».proof.Proof.BodyI
public import Idealize.ShloMosaic.Lib.Pointwise.Index
public import Idealize.ShloMosaic.Lib.Claim

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.Put

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The grid -/

theorem coord0 (t : Fin cfg0.N) : (grid0.coords t 0).val = t.val / 8 := by
  have ht : t.val < 16 := Nat.lt_of_lt_of_eq t.isLt N_0
  have e : (grid0.coords t 0).val = t.val / 8 % 2 := Pipeline.Grid.coords_val t 0 (by decide) rfl
  omega

theorem coord1 (t : Fin cfg0.N) : (grid0.coords t 1).val = t.val % 8 := by
  have e : (grid0.coords t 1).val = t.val / 1 % 8 := Pipeline.Grid.coords_val t 1 (by decide) rfl
  omega

theorem cond1_coords : ∀ i : grid0.Coords, k0_cond1 i = 1#1 ↔ (i 0).val = 0 ∧ (i 1).val = 0 := by decide +kernel
theorem cond2_coords : ∀ i : grid0.Coords, k0_cond2 i = 1#1 ↔ (i 0).val = 0 := by decide +kernel
theorem cond3_coords : ∀ i : grid0.Coords, k0_cond3 i = 1#1 ↔ (i 0).val = 1 := by decide +kernel

theorem cond1_iff (t : Fin cfg0.N) : k0_cond1 (grid0.coords t) = 1#1 ↔ t.val = 0 := by
  rw [cond1_coords, coord0, coord1]; omega
theorem cond2_iff (t : Fin cfg0.N) : k0_cond2 (grid0.coords t) = 1#1 ↔ t.val < 8 := by
  rw [cond2_coords, coord0]; omega
theorem cond3_iff (t : Fin cfg0.N) : k0_cond3 (grid0.coords t) = 1#1 ↔ 8 ≤ t.val := by
  have ht : t.val < 16 := Nat.lt_of_lt_of_eq t.isLt N_0
  rw [cond3_coords, coord0]; omega

/-! ## What the kept buffers hold once filled -/

/-- The grid point that fills row `r`, -/
def ptOf (r : Fin 2048) : Fin cfg0.N := ⟨r.val / 256, by rw [show cfg0.N = 16 from N_0]; omega⟩
/-- and the row's place in that point's band. -/
def rowOf (r : Fin 2048) : Fin 256 := ⟨r.val % 256, Nat.mod_lt _ (by decide)⟩

/-- The anchors' rows, the positives' rows and the positives' distances, filled. -/
def keptA (c : Dev nD) : Vec F S2048x512 .bf16 := fun y =>
  k0_pay6 (planeA (iblk m c 0 (ptOf (y 0)))) (ix2 (rowOf (y 0)) (y 1))
def keptP (c : Dev nD) : Vec F S2048x512 .bf16 := fun y =>
  k0_pay7 (planeP (iblk m c 0 (ptOf (y 0)))) (ix2 (rowOf (y 0)) (y 1))
def keptS (c : Dev nD) : Vec F S2048x1 .f32 := fun y =>
  k0_pay2 (k0_pay8 (planeA (iblk m c 0 (ptOf (y 0)))) (planeP (iblk m c 0 (ptOf (y 0))))) (ix2 (rowOf (y 0)) (y 1))

/-- The first `n` bands of `f` are those of `g`. -/
def Upto {k : ℕ} {e : EltTy} (n : ℕ) (f g : (⟨2, ![2048, k]⟩ : Shape).Idx → Elt F e) : Prop :=
  ∀ y, (y 0).val < 256 * n → f y = g y

theorem Upto.all {k : ℕ} {e : EltTy} {n : ℕ} {f g : (⟨2, ![2048, k]⟩ : Shape).Idx → Elt F e} (h : Upto n f g) (hn : 8 ≤ n) : f = g :=
  funext fun y => h y (by have : (y 0).val < 2048 := (y 0).isLt; omega)

/-- One more band. -/
theorem Upto.put {k : ℕ} {e : EltTy} {n : ℕ} {f g : (⟨2, ![2048, k]⟩ : Shape).Idx → Elt F e} (h : Upto n f g)
    (off : Fin 2 → ℕ) (inb : ∀ a, off a + (⟨2, ![256, k]⟩ : Shape).size a ≤ (⟨2, ![2048, k]⟩ : Shape).size a)
    (hoff : off = ![256 * n, 0]) (w : (⟨2, ![256, k]⟩ : Shape).Idx → Elt F e)
    (hw : ∀ y : (⟨2, ![2048, k]⟩ : Shape).Idx, (y 0).val / 256 = n → w (ix2 (rowOf (y 0)) (y 1)) = g y) :
    Upto (n + 1) (put (Rect.unit (s := ⟨2, ![2048, k]⟩) off (⟨2, ![256, k]⟩ : Shape).size inb) w f) g := by
  subst hoff
  intro y hy
  by_cases hn : (y 0).val < 256 * n
  · rw [put_miss _ _ _ _ (Rect.not_mem_set_of_axis _ y 0 (256 * n) 256 rfl rfl rfl (.inl hn))]
    exact h y hn
  · have hd : (y 0).val / 256 = n := by omega
    rw [← hw y hd]
    refine put_hit (Rect.unit (s := ⟨2, ![2048, k]⟩) ![256 * n, 0] (⟨2, ![256, k]⟩ : Shape).size inb) w f (ix2 (n0 := 256) (n1 := k) (rowOf (y 0)) (y 1)) y fun a => ?_
    match a with
    | 0 => show (y 0).val = 256 * n + 1 * ((y 0).val % 256); omega
    | 1 => show (y 1).val = 0 + 1 * (y 1).val; omega

theorem iblk_ptOf (c : Dev nD) (t : Fin cfg0.N) (r : Fin 2048) (h : r.val / 256 = t.val) : ptOf r = t := Fin.ext h

/-! ## The output after each point -/

/-- Zero after phase 0; in phase 1 each point adds its own sum. -/
def acc (c : Dev nD) : (n : ℕ) → n < cfg0.N → Vec F S1x1 .f32
  | 0, _ => k0_pay1
  | n + 1, hn =>
    if h3 : k0_cond3 (grid0.coords ⟨n + 1, hn⟩) = 1#1 then
      k0_pay3 (grid0.coords ⟨n + 1, hn⟩) (View.ld (keptA m c) (band3 _ h3)) (keptP m c) (View.ld (keptS m c) (band4 _ h3))
        (acc c n (Nat.lt_of_succ_lt hn))
    else acc c n (Nat.lt_of_succ_lt hn)

theorem pred_lt (t : Fin cfg0.N) : t.val - 1 < cfg0.N := Nat.lt_of_le_of_lt (Nat.sub_le _ _) t.isLt

theorem acc_fill (c : Dev nD) (t : Fin cfg0.N) (ht : t.val ≠ 0) (h : t.val < 8) :
    acc m c t.val t.isLt = acc m c (t.val - 1) (pred_lt t) := by
  obtain ⟨n, hn⟩ := t
  cases n with
  | zero => exact absurd rfl ht
  | succ n => exact dif_neg (fun h3 => by have := (cond3_iff ⟨n + 1, hn⟩).mp h3; dsimp only at this h; omega)

theorem acc_sum (c : Dev nD) (t : Fin cfg0.N) (h3 : k0_cond3 (grid0.coords t) = 1#1) :
    acc m c t.val t.isLt = k0_pay3 (grid0.coords t) (View.ld (keptA m c) (band3 _ h3)) (keptP m c) (View.ld (keptS m c) (band4 _ h3))
        (acc m c (t.val - 1) (pred_lt t)) := by
  obtain ⟨n, hn⟩ := t
  cases n with
  | zero => have := (cond3_iff ⟨0, hn⟩).mp h3; exact absurd this (Nat.not_succ_le_zero 7)
  | succ n => exact dif_pos h3

/-! ## The proof data -/

abbrev scA : Memref sig .tc .vmem S2048x512 .bf16 := Memref.whole cc0_scratch0
abbrev scP : Memref sig .tc .vmem S2048x512 .bf16 := Memref.whole cc0_scratch1
abbrev scS : Memref sig .tc .vmem S2048x1 .f32 := Memref.whole cc0_scratch2

/-- Before point `n`: the first `n` bands of each kept buffer are filled. -/
def Inv (c : Dev nD) (n : ℕ) : sProp 𝕄 :=
  iprop((∃ f, ⌜Upto n f (keptA m c)⌝ ∗ owns (c : Thread nD τ) scA fullShare f)
    ∗ (∃ f, ⌜Upto n f (keptP m c)⌝ ∗ owns (c : Thread nD τ) scP fullShare f)
    ∗ (∃ f, ⌜Upto n f (keptS m c)⌝ ∗ owns (c : Thread nD τ) scS fullShare f)
    ∗ (∃ r, prngReg c r))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => acc m c t.val t.isLt
  Φ t := Inv m c t.val
  q _ := fullShare
  owed _ := 0

theorem A_eq (c : Dev nD) (w : Fin cfg0.W) : (dats m 0 c).A w = V m c (Pipeline.arrRef spec0 w) := by
  dsimp only [dats]
theorem share_eq (c : Dev nD) (w : Fin cfg0.W) : (dats m 0 c).share w = fullShare := by
  unfold Dat.share; split <;> rfl
theorem after_in (c : Dev nD) (t : Fin cfg0.N) : (dats m 0 c).after 0 t = iblk m c 0 t := by dsimp only [dats]
theorem after_out (c : Dev nD) (t : Fin cfg0.N) : (dats m 0 c).after 1 t = acc m c t.val t.isLt := by dsimp only [dats]
theorem before_in (c : Dev nD) (t : Fin cfg0.N) (d) : (dats m 0 c).before 0 t d = iblk m c 0 t :=
  before0_0_of m (dats m 0 c) (A_eq m c 0) (after_in m c) t d

theorem idle_true (t : Fin cfg0.N) (ht : t.val ≠ 0) (h : t.val < 8) : cfg0.idle 1 (grid0.coords t) = true := by
  show (!(k0_cond1 (grid0.coords t) == 1#1) && !(k0_cond3 (grid0.coords t) == 1#1)) = true
  rw [beq_eq_false_iff_ne.mpr (fun h1 => ht ((cond1_iff t).mp h1)), beq_eq_false_iff_ne.mpr (fun h3 => by have := (cond3_iff t).mp h3; omega)]
  rfl
theorem idle_false (t : Fin cfg0.N) (h : t.val = 0 ∨ 8 ≤ t.val) : cfg0.idle 1 (grid0.coords t) = false := by
  show (!(k0_cond1 (grid0.coords t) == 1#1) && !(k0_cond3 (grid0.coords t) == 1#1)) = false
  rcases h with h | h
  · rw [beq_iff_eq.mpr ((cond1_iff t).mpr h)]; rfl
  · rw [beq_iff_eq.mpr ((cond3_iff t).mpr h)]; exact Bool.and_false _
theorem flush_false (t : Fin cfg0.N) (h : t.val < 15) : (cfg0.win 1).flush t = false :=
  Bool.eq_false_iff.mpr fun hf => by have := (flush0_1 t).mp hf; omega

/-- Past the first point the output's buffer holds what the point before left. -/
theorem before_out (c : Dev nD) (n : ℕ) : ∀ (t : Fin cfg0.N) (d), t.val = n + 1 →
    (dats m 0 c).before 1 t d = acc m c (t.val - 1) (pred_lt t) := by
  induction n with
  | zero =>
    intro t d ht
    have hN : t.val < 16 := Nat.lt_of_lt_of_eq t.isLt N_0
    rw [Dat.before_of_pos _ 1 t (by omega) ((cfg0.win 1).fetch_out rfl t), flush_false ⟨t.val - 1, pred_lt t⟩ (by dsimp only; omega), if_neg Bool.false_ne_true]
    unfold Dat.left
    rw [idle_false ⟨t.val - 1, pred_lt t⟩ (.inl (by dsimp only; omega))]
    exact (after_out m c ⟨t.val - 1, pred_lt t⟩)
  | succ n ih =>
    intro t d ht
    have hN : t.val < 16 := Nat.lt_of_lt_of_eq t.isLt N_0
    rw [Dat.before_of_pos _ 1 t (by omega) ((cfg0.win 1).fetch_out rfl t), flush_false ⟨t.val - 1, pred_lt t⟩ (by dsimp only; omega), if_neg Bool.false_ne_true]
    unfold Dat.left
    by_cases h8 : t.val - 1 < 8
    · rw [idle_true ⟨t.val - 1, pred_lt t⟩ (by dsimp only; omega) h8]
      dsimp only
      rw [ih ⟨t.val - 1, pred_lt t⟩ d (by dsimp only; omega)]
      exact (acc_fill m c ⟨t.val - 1, pred_lt t⟩ (by dsimp only; omega) h8).symm
    · rw [idle_false ⟨t.val - 1, pred_lt t⟩ (.inr (by dsimp only; omega))]
      exact (after_out m c ⟨t.val - 1, pred_lt t⟩)

/-! ## The body obligation -/

/-- Filling one band at point `t`. -/
theorem fillA (c : Dev nD) (t : Fin cfg0.N) (h : t.val < 8) (h2 : k0_cond2 (grid0.coords t) = 1#1) (f : Vec F S2048x512 .bf16) (hf : Upto t.val f (keptA m c)) :
    Upto (t.val + 1) (put (band1 _ h2) (k0_pay6 (planeA (iblk m c 0 t))) f) (keptA m c) :=
  hf.put _ _ (by rw [k0_off1_eq, coord1, Nat.mod_eq_of_lt h]) _ fun y hy => by unfold keptA; rw [iblk_ptOf c t (y 0) hy]
theorem fillP (c : Dev nD) (t : Fin cfg0.N) (h : t.val < 8) (h2 : k0_cond2 (grid0.coords t) = 1#1) (f : Vec F S2048x512 .bf16) (hf : Upto t.val f (keptP m c)) :
    Upto (t.val + 1) (put (band1 _ h2) (k0_pay7 (planeP (iblk m c 0 t))) f) (keptP m c) :=
  hf.put _ _ (by rw [k0_off1_eq, coord1, Nat.mod_eq_of_lt h]) _ fun y hy => by unfold keptP; rw [iblk_ptOf c t (y 0) hy]
theorem fillS (c : Dev nD) (t : Fin cfg0.N) (h : t.val < 8) (h2 : k0_cond2 (grid0.coords t) = 1#1) (f : Vec F S2048x1 .f32) (hf : Upto t.val f (keptS m c)) :
    Upto (t.val + 1) (put (band2 _ h2) (k0_pay2 (k0_pay8 (planeA (iblk m c 0 t)) (planeP (iblk m c 0 t)))) f) (keptS m c) :=
  hf.put _ _ (by rw [k0_off2_eq, coord1, Nat.mod_eq_of_lt h]) _ fun y hy => by unfold keptS; rw [iblk_ptOf c t (y 0) hy]

/-- What the body finds and leaves at a point, buffer by buffer. -/
def pre (c : Dev nD) (t : Fin cfg0.N) : sProp 𝕄 :=
  iprop(Inv m c t.val ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))
def post (c : Dev nD) (t : Fin cfg0.N) (out : sProp 𝕄) : sProp 𝕄 :=
  iprop(Inv m c (t.val + 1) ∗ (dats m 0 c).owesAt () t.castSucc
    ∗ owns (c : Thread nD τ) (st0_0 t) fullShare ((dats m 0 c).after 0 t) ∗ out)

set_option maxHeartbeats 1600000 in
theorem body_first (c : Dev nD) (t : Fin cfg0.N) (ht : t.val = 0) :
    pre m c t ⊢ wp frame (wpE (defs₀ (F := F)) Variants.none c none) Set.univ (bodyAt0 t)
      (fun _ => post m c t (owns (c : Thread nD τ) (st0_1 t) fullShare ((dats m 0 c).after 1 t))) := by
  have h8 : t.val < 8 := by omega
  have h1 := (cond1_iff t).mpr ht
  have h2 := (cond2_iff t).mpr h8
  have h3 : ¬ k0_cond3 (grid0.coords t) = 1#1 := fun h => by have := (cond3_iff t).mp h; omega
  unfold pre post bodyAt0 Inv
  simp only [before_in]
  rw [after_in, after_out, show acc m c t.val t.isLt = k0_pay1 from by obtain ⟨n, hn⟩ := t; dsimp only at ht; subst ht; rfl]
  iintro ⟨⟨⟨%fa, %ha, HA⟩, ⟨%fp, %hp, HP⟩, ⟨%fs, %hs, HS⟩, Hg⟩, Ho, ⟨%d0, H0⟩, ⟨%d1, H1⟩⟩
  iapply (run_first c (grid0.coords t) _ _ _ _ _ _ _ _ _ _ h1 h2 h3 (iblk m c 0 t) fa fp fs Set.univ _)
  isplitl [H0]; · iexact H0
  isplitl [H1]; · iexists _; iexact H1
  isplitl [HA]; · iexact HA
  isplitl [HP]; · iexact HP
  isplitl [HS]; · iexact HS
  iintro ⟨H0, H1, HA, HP, HS⟩
  isplitl [HA HP HS Hg]
  · isplitl [HA]
    · iexists _; isplitr; · ipureintro; exact fillA m c t h8 h2 fa ha
      iexact HA
    isplitl [HP]
    · iexists _; isplitr; · ipureintro; exact fillP m c t h8 h2 fp hp
      iexact HP
    isplitl [HS]
    · iexists _; isplitr; · ipureintro; exact fillS m c t h8 h2 fs hs
      iexact HS
    iexact Hg
  isplitl [Ho]; · iexact Ho
  isplitl [H0]; · iexact H0
  iexact H1

set_option maxHeartbeats 1600000 in
theorem body_fill (c : Dev nD) (t : Fin cfg0.N) (ht : t.val ≠ 0) (h8 : t.val < 8) :
    pre m c t ⊢ wp frame (wpE (defs₀ (F := F)) Variants.none c none) Set.univ (bodyAt0 t)
      (fun _ => post m c t iprop(∃ d, owns (c : Thread nD τ) (st0_1 t) fullShare ((dats m 0 c).before 1 t d))) := by
  have h1 : ¬ k0_cond1 (grid0.coords t) = 1#1 := fun h => ht ((cond1_iff t).mp h)
  have h2 := (cond2_iff t).mpr h8
  have h3 : ¬ k0_cond3 (grid0.coords t) = 1#1 := fun h => by have := (cond3_iff t).mp h; omega
  unfold pre post bodyAt0 Inv
  simp only [before_in]
  rw [after_in]
  iintro ⟨⟨⟨%fa, %ha, HA⟩, ⟨%fp, %hp, HP⟩, ⟨%fs, %hs, HS⟩, Hg⟩, Ho, ⟨%d0, H0⟩, H1⟩
  iapply (run_fill c (grid0.coords t) _ _ _ _ _ _ _ _ _ _ h1 h2 h3 (iblk m c 0 t) fa fp fs Set.univ _)
  isplitl [H0]; · iexact H0
  isplitl [HA]; · iexact HA
  isplitl [HP]; · iexact HP
  isplitl [HS]; · iexact HS
  iintro ⟨H0, HA, HP, HS⟩
  isplitl [HA HP HS Hg]
  · isplitl [HA]
    · iexists _; isplitr; · ipureintro; exact fillA m c t h8 h2 fa ha
      iexact HA
    isplitl [HP]
    · iexists _; isplitr; · ipureintro; exact fillP m c t h8 h2 fp hp
      iexact HP
    isplitl [HS]
    · iexists _; isplitr; · ipureintro; exact fillS m c t h8 h2 fs hs
      iexact HS
    iexact Hg
  isplitl [Ho]; · iexact Ho
  isplitl [H0]; · iexact H0
  iexact H1

set_option maxHeartbeats 1600000 in
theorem body_sum (c : Dev nD) (t : Fin cfg0.N) (h8 : 8 ≤ t.val) :
    pre m c t ⊢ wp frame (wpE (defs₀ (F := F)) Variants.none c none) Set.univ (bodyAt0 t)
      (fun _ => post m c t (owns (c : Thread nD τ) (st0_1 t) fullShare ((dats m 0 c).after 1 t))) := by
  have h1 : ¬ k0_cond1 (grid0.coords t) = 1#1 := fun h => by have := (cond1_iff t).mp h; omega
  have h2 : ¬ k0_cond2 (grid0.coords t) = 1#1 := fun h => by have := (cond2_iff t).mp h; omega
  have h3 := (cond3_iff t).mpr h8
  unfold pre post bodyAt0 Inv
  simp only [before_in, fun d => before_out m c (t.val - 1) t d (by omega)]
  rw [after_in, after_out, acc_sum m c t h3]
  iintro ⟨⟨⟨%fa, %ha, HA⟩, ⟨%fp, %hp, HP⟩, ⟨%fs, %hs, HS⟩, Hg⟩, Ho, ⟨%d0, H0⟩, ⟨%d1, H1⟩⟩
  obtain rfl := ha.all h8
  obtain rfl := hp.all h8
  obtain rfl := hs.all h8
  iapply (run_sum c (grid0.coords t) _ _ _ _ _ _ _ _ _ _ h1 h2 h3 (acc m c (t.val - 1) (pred_lt t)) (keptA m c) (keptP m c) (keptS m c) Set.univ _)
  isplitl [H1]; · iexact H1
  isplitl [HA]; · iexact HA
  isplitl [HP]; · iexact HP
  isplitl [HS]; · iexact HS
  iintro ⟨H1, HA, HP, HS⟩
  isplitl [HA HP HS Hg]
  · isplitl [HA]
    · iexists _; isplitr; · ipureintro; exact fun _ _ => rfl
      iexact HA
    isplitl [HP]
    · iexists _; isplitr; · ipureintro; exact fun _ _ => rfl
      iexact HP
    isplitl [HS]
    · iexists _; isplitr; · ipureintro; exact fun _ _ => rfl
      iexact HS
    iexact Hg
  isplitl [Ho]; · iexact Ho
  isplitl [H0]; · iexact H0
  iexact H1

theorem body_row (t : Fin cfg0.N) :
    defs₀ (F := F) .tc cfg0.body (cfg0.bodyArgs t (cfg0.slots t)) = bodyAt0 t := by
  unfold defs₀; rw [Defs.onTc_tc]

set_option maxHeartbeats 800000 in
theorem obligation (c : Dev nD) : BodyObligation (dats (F := F) m 0 c) (defs₀ (F := F)) Variants.none () Set.univ := fun t => by
  rw [bigSep_W0, bigSep_W0, body_row]
  have hN : t.val < 16 := Nat.lt_of_lt_of_eq t.isLt N_0
  by_cases h8 : t.val < 8
  · by_cases ht : t.val = 0
    · rw [idle_false t (.inl ht)]
      exact body_first m c t ht
    · rw [idle_true t ht h8, flush_false t (by omega)]
      exact body_fill m c t ht h8
  · rw [idle_false t (.inr (by omega))]
    exact body_sum m c t (by omega)

/-! ## The run -/

theorem entry_eq (c : Dev nD) :
    (Pipeline.ΦA spec0 c : sProp 𝕄)
      = iprop(iprop((∃ d, owns (c : Thread nD τ) scA fullShare d) ∗ (∃ d, owns (c : Thread nD τ) scP fullShare d)
          ∗ (∃ d, owns (c : Thread nD τ) scS fullShare d)) ∗ (∃ r, prngReg c r)) := by
  unfold Pipeline.ΦA; rw [scopedRest0_eq]; simp only [scA, scP, scS, owns_whole]; try rfl

theorem enter (c : Dev nD) : Pipeline.ΦA spec0 c ⊢ (dats m 0 c).Φ 0 := by
  rw [show (dats m 0 c).Φ 0 = Inv m c 0 from rfl, entry_eq]
  unfold Inv
  iintro ⟨⟨⟨%a, HA⟩, ⟨%p, HP⟩, ⟨%s, HS⟩⟩, Hg⟩
  isplitl [HA]
  · iexists a; isplitr; · ipureintro; exact fun y h => absurd h (by omega)
    iexact HA
  isplitl [HP]
  · iexists p; isplitr; · ipureintro; exact fun y h => absurd h (by omega)
    iexact HP
  isplitl [HS]
  · iexists s; isplitr; · ipureintro; exact fun y h => absurd h (by omega)
    iexact HS
  iexact Hg

theorem leave (c : Dev nD) : (dats m 0 c).Φ (Fin.last cfg0.N) ⊢ Pipeline.ΦA spec0 c := by
  rw [show (dats m 0 c).Φ (Fin.last cfg0.N) = Inv m c (Fin.last cfg0.N).val from rfl, entry_eq]
  unfold Inv
  iintro ⟨⟨%a, -, HA⟩, ⟨%p, -, HP⟩, ⟨%s, -, HS⟩, Hg⟩
  isplitl [HA HP HS]
  · isplitl [HA]; · iexists _; iexact HA
    isplitl [HP]; · iexists _; iexact HP
    iexists _; iexact HS
  iexact Hg

set_option backward.isDefEq.respectTransparency.types false in
set_option maxHeartbeats 800000 in
/-- Every execution ends, the arrays as the proof data says and every counter at zero. -/
theorem run : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (obligation m c).loose) (hshare := share_eq m)
    (howed := fun _ _ => rfl) (V₀ := V0 m) (opss := [hostOps1]) (hsub := sfx_sub) (hfresh := sfx_fresh) (hkeep := sfx_keeps)
    (hmain := hmain m Variants.none) (hA := A_eq m) (hin := enter m) (hout := leave m)

/-- The argument ends unchanged and every counter at zero. -/
theorem kept : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  θ_run_and (frame_of m ρ (dats m) (A_eq m) ((θ_run defs _ _).mono (fun _ h => h.1) (run m ρ)))
    ((θ_run defs _ _).mono (fun _ h => h.2) (run m ρ))

end Cert.KernelIdeal.Hand
-- ==== Proof.RefRun.lean ====
/-
The reference's run. Its main function is a straight line of host operations, with five calls whose bodies
stand in line, so every buffer ends at the fold of the operations over what it holds at launch.
The result is named below in a few steps, in the order the mathematics has them.
-/
module

public import proofs.«01_k».proof.ReferenceIdeal
public import proofs.«01_k».proof.Proof.Gen.ReferenceIdeal
public import Idealize.ShloMosaic.Lib.StableHlo.Run

@[expose] public section

set_option maxRecDepth 16384

noncomputable section

namespace Cert.ReferenceIdeal.Hand

open Idealize.ShloMosaic Idealize.ShloMosaic.TcCoe Idealize.ShloMosaic.StableHlo Idealize.SL.Sem
open Cert.ReferenceIdeal Cert.ReferenceIdeal.Gen

variable {F : FTy → Type} [FloatOps F]

/-- The anchors: the first of the two planes of the argument. -/
def anchors (x : FVec F S2048x2x512 .f32) : FVec F S2048x512 .f32 :=
  shapeCast S2048x512 (extractStridedSlice S2048x1x512 ![0, 0, 0] x slices_S2048x2x512_S2048x1x512_0_0_0) shapeCasts_S2048x1x512_S2048x512

/-- The positives: the second plane. -/
def positives (x : FVec F S2048x2x512 .f32) : FVec F S2048x512 .f32 :=
  shapeCast S2048x512 (extractStridedSlice S2048x1x512 ![0, 1, 0] x slices_S2048x2x512_S2048x1x512_0_1_0) shapeCasts_S2048x1x512_S2048x512

/-- The sum of squares of each row. -/
def rowSq (y : FVec F S2048x512 .f32) : FVec F S2048 .f32 :=
  Host.reduceAdd (mulf y y) (constant S_ .f32 0x00000000#32) reducesTo_S2048x512_S2048_d1 h_S_

/-- Each row over its norm, the norm kept from below. -/
def unitRows (y : FVec F S2048x512 .f32) : FVec F S2048x512 .f32 :=
  Host.divf y (broadcastInDim S2048x512 ![0, 1] bcast_S2048x1_S2048x512_0_1
    (maximumf (Host.sqrt (broadcastInDim S2048x1 ![0] bcast_S2048_S2048x1_0 (rowSq y)))
      (broadcastInDim S2048x1 ![] bcast_S_S2048x1 (constant S_ .f32 0x2B8CBCCC#32))))

/-- The products of every row of `a` with every row of `p`. -/
def products (a p : FVec F S2048x512 .f32) : FVec F S2048x2048 .f32 :=
  Host.dotGeneral dot_S2048x512_S512x2048_S2048x2048_1_0_0_1_n_n none a
    (transpose S512x2048 [1, 0] p transposes_S2048x512_S512x2048_1_0)

/-- Minus the distance of every row of `a` from every row of `p`. -/
def closeness (a p : FVec F S2048x512 .f32) : FVec F S2048x2048 .f32 :=
  Host.negf (Host.sqrt (maximumf
    (subf
      (addf (broadcastInDim S2048x2048 ![0, 1] bcast_S2048x1_S2048x2048_0_1 (broadcastInDim S2048x1 ![0] bcast_S2048_S2048x1_0 (rowSq a)))
        (broadcastInDim S2048x2048 ![0, 1] bcast_S1x2048_S2048x2048_0_1 (broadcastInDim S1x2048 ![1] bcast_S2048_S1x2048_1 (rowSq p))))
      (mulf (broadcastInDim S2048x2048 ![] bcast_S_S2048x2048 (constant S_ .f32 0x40000000#32)) (products a p)))
    (broadcastInDim S2048x2048 ![] bcast_S_S2048x2048 (constant S_ .f32 0x00000000#32))))

/-- Where the row number is the column number. -/
def diagonal : IVec S2048x2048 1 :=
  cmpi .eq (addi (iotaInDim S2048x2048 32 0) (broadcastInDim S2048x2048 ![] bcast_S_S2048x2048 (constantI S_ 32 0#32)))
    (iotaInDim S2048x2048 32 1)

/-- The closeness with the diagonal put at minus infinity. -/
def masked (a p : FVec F S2048x512 .f32) : FVec F S2048x2048 .f32 :=
  select diagonal (broadcastInDim S2048x2048 ![] bcast_S_S2048x2048 (constant S_ .f32 0xFF800000#32)) (closeness a p)

/-- The second parts of an array of pairs. -/
def seconds {s : Shape} {α β : Type} (v : s.Idx → α × β) : s.Idx → β := fun j => (v j).2

/-- The column of each row's largest entry. -/
def hardest (z : FVec F S2048x2048 .f32) : IVec S2048 32 :=
  seconds (Host.argReduce reducer_argmax_f32_i32 z (iotaInDim S2048x2048 32 1) (constant S_ .f32 0xFF800000#32) (constantI S_ 32 0#32)
    reducesTo_S2048x2048_S2048_d1 h_S_)

/-- An index counted from the end where it is negative. -/
def wrapped (k : IVec S2048 32) : IVec S2048 32 :=
  select (cmpi .slt k (broadcastInDim S2048 ![] bcast_S_S2048 (constantI S_ 32 0#32)))
    (addi k (broadcastInDim S2048 ![] bcast_S_S2048 (constantI S_ 32 2048#32))) k

/-- The rows of `p` that the indices name. -/
def rowsAt (p : FVec F S2048x512 .f32) (k : IVec S2048 32) : FVec F S2048x512 .f32 :=
  Host.gather gather_S2048x512_S2048x1_S2048x512_1_0_n_n_0_1_1512 p (broadcastInDim S2048x1 ![0] bcast_S2048_S2048x1_0 (wrapped k))

/-- The distance of each anchor from its positive, the small constant added to every difference. -/
def posDist (a p : FVec F S2048x512 .f32) : FVec F S2048 .f32 :=
  Host.sqrt (rowSq (addf (subf a p) (broadcastInDim S2048x512 ![] bcast_S_S2048x512 (constant S_ .f32 0x358637BD#32))))

/-- The distance of each anchor from its negative. -/
def negDist (a n : FVec F S2048x512 .f32) : FVec F S2048 .f32 := Host.sqrt (rowSq (subf a n))

/-- The hinge of each row: the squared distances' difference plus the margin, where positive. -/
def hinge (u v : FVec F S2048 .f32) : FVec F S2048 .f32 :=
  maximumf (addf (subf (mulf u u) (mulf v v)) (broadcastInDim S2048 ![] bcast_S_S2048 (constant S_ .f32 0x3E4CCCCD#32)))
    (broadcastInDim S2048 ![] bcast_S_S2048 (constant S_ .f32 0x00000000#32))

/-- The mean over the rows. -/
def mean (h : FVec F S2048 .f32) : FVec F S_ .f32 :=
  Host.divf (Host.reduceAdd h (constant S_ .f32 0x00000000#32) reducesTo_S2048_S_d0 h_S_) (constant S_ .f32 0x45000000#32)

/-- The loss of unit anchors and unit positives. -/
def lossOf (a p : FVec F S2048x512 .f32) : FVec F S_ .f32 :=
  mean (hinge (posDist a p) (negDist a (rowsAt p (hardest (masked a p)))))

/-- What the reference computes of its argument. -/
def out (x : FVec F S2048x2x512 .f32) : FVec F S_ .f32 := lossOf (unitRows (anchors x)) (unitRows (positives x))

/-- The main function's operations in order, the calls' bodies in line. -/
abbrev ops : List (HloOp τ sig (Elt F)) :=
  [ unary main_arg0 main_v0 ((extractStridedSlice S2048x1x512 ![0, 0, 0] · slices_S2048x2x512_S2048x1x512_0_0_0)),
    reshape main_v0 main_v1 rfl shapeCasts_S2048x1x512_S2048x512,
    unary main_arg0 main_v2 ((extractStridedSlice S2048x1x512 ![0, 1, 0] · slices_S2048x2x512_S2048x1x512_0_1_0)),
    reshape main_v2 main_v3 rfl shapeCasts_S2048x1x512_S2048x512,
    TRef.binary (.of main_v1) (.of main_v1) main_call0.v0 mulf,
    TRef.nullary main_call0.cst (constant S_ .f32 0x00000000#32),
    TRef.binary main_call0.v0 main_call0.cst main_call0.v1 (fun x v => Host.reduceAdd x v reducesTo_S2048x512_S2048_d1 h_S_),
    TRef.unary main_call0.v1 main_call0.v2 (broadcastInDim S2048x1 ![0] bcast_S2048_S2048x1_0),
    TRef.unary main_call0.v2 main_call0.v3 Host.sqrt,
    nullary main_cst (constant S_ .f32 0x2B8CBCCC#32),
    unary main_cst main_v5 (broadcastInDim S2048x1 ![] bcast_S_S2048x1),
    binary main_v4 main_v5 main_v6 (maximumf),
    unary main_v6 main_v7 (broadcastInDim S2048x512 ![0, 1] bcast_S2048x1_S2048x512_0_1),
    binary main_v1 main_v7 main_v8 (Host.divf),
    TRef.binary (.of main_v3) (.of main_v3) main_call1.v0 mulf,
    TRef.nullary main_call1.cst (constant S_ .f32 0x00000000#32),
    TRef.binary main_call1.v0 main_call1.cst main_call1.v1 (fun x v => Host.reduceAdd x v reducesTo_S2048x512_S2048_d1 h_S_),
    TRef.unary main_call1.v1 main_call1.v2 (broadcastInDim S2048x1 ![0] bcast_S2048_S2048x1_0),
    TRef.unary main_call1.v2 main_call1.v3 Host.sqrt,
    nullary main_cst_0 (constant S_ .f32 0x2B8CBCCC#32),
    unary main_cst_0 main_v10 (broadcastInDim S2048x1 ![] bcast_S_S2048x1),
    binary main_v9 main_v10 main_v11 (maximumf),
    unary main_v11 main_v12 (broadcastInDim S2048x512 ![0, 1] bcast_S2048x1_S2048x512_0_1),
    binary main_v3 main_v12 main_v13 (Host.divf),
    binary main_v8 main_v8 main_v14 (mulf),
    nullary main_cst_1 (constant S_ .f32 0x00000000#32),
    binary main_v14 main_cst_1 main_v15 ((fun x v => Host.reduceAdd x v reducesTo_S2048x512_S2048_d1 h_S_)),
    binary main_v13 main_v13 main_v16 (mulf),
    nullary main_cst_2 (constant S_ .f32 0x00000000#32),
    binary main_v16 main_cst_2 main_v17 ((fun x v => Host.reduceAdd x v reducesTo_S2048x512_S2048_d1 h_S_)),
    unary main_v13 main_v18 ((transpose S512x2048 [1, 0] · transposes_S2048x512_S512x2048_1_0)),
    binary main_v8 main_v18 main_v19 ((fun l r => Host.dotGeneral dot_S2048x512_S512x2048_S2048x2048_1_0_0_1_n_n none l r)),
    unary main_v15 main_v20 (broadcastInDim S2048x1 ![0] bcast_S2048_S2048x1_0),
    unary main_v17 main_v21 (broadcastInDim S1x2048 ![1] bcast_S2048_S1x2048_1),
    unary main_v20 main_v22 (broadcastInDim S2048x2048 ![0, 1] bcast_S2048x1_S2048x2048_0_1),
    unary main_v21 main_v23 (broadcastInDim S2048x2048 ![0, 1] bcast_S1x2048_S2048x2048_0_1),
    binary main_v22 main_v23 main_v24 (addf),
    nullary main_cst_3 (constant S_ .f32 0x40000000#32),
    unary main_cst_3 main_v25 (broadcastInDim S2048x2048 ![] bcast_S_S2048x2048),
    binary main_v25 main_v19 main_v26 (mulf),
    binary main_v24 main_v26 main_v27 (subf),
    nullary main_cst_4 (constant S_ .f32 0x00000000#32),
    unary main_cst_4 main_v28 (broadcastInDim S2048x2048 ![] bcast_S_S2048x2048),
    binary main_v27 main_v28 main_v29 (maximumf),
    unary main_v29 main_v30 (Host.sqrt),
    unary main_v30 main_v31 (Host.negf),
    nullary main_v32 (iotaInDim S2048x2048 32 0),
    nullary main_v33 (iotaInDim S2048x2048 32 1),
    nullary main_c (constantI S_ 32 0#32),
    unary main_c main_v34 (broadcastInDim S2048x2048 ![] bcast_S_S2048x2048),
    binary main_v32 main_v34 main_v35 (addi),
    binary main_v35 main_v33 main_v36 (cmpi .eq),
    nullary main_cst_5 (constant S_ .f32 0xFF800000#32),
    TRef.unary (.of main_cst_5) main_call2.v0 id,
    TRef.unary main_call2.v0 main_call2.v1 (broadcastInDim S2048x2048 ![] bcast_S_S2048x2048),
    TRef.ternary (.of main_v36) main_call2.v1 (.of main_v31) main_call2.v2 select,
    TRef.nullary main_call3.v0 (iotaInDim S2048x2048 32 1),
    TRef.nullary main_call3.cst (constant S_ .f32 0xFF800000#32),
    TRef.nullary main_call3.c (constantI S_ 32 0#32),
    TRef.quaternary (.of main_v37) main_call3.v0 main_call3.cst main_call3.c main_call3.v1_0 (fun x y u v j => (Host.argReduce reducer_argmax_f32_i32 x y u v reducesTo_S2048x2048_S2048_d1 h_S_ j).1),
    TRef.quaternary (.of main_v37) main_call3.v0 main_call3.cst main_call3.c main_call3.v1_1 (fun x y u v j => (Host.argReduce reducer_argmax_f32_i32 x y u v reducesTo_S2048x2048_S2048_d1 h_S_ j).2),
    nullary main_c_6 (constantI S_ 32 0#32),
    unary main_c_6 main_v39 (broadcastInDim S2048 ![] bcast_S_S2048),
    binary main_v38 main_v39 main_v40 (cmpi .slt),
    nullary main_c_7 (constantI S_ 32 2048#32),
    unary main_c_7 main_v41 (broadcastInDim S2048 ![] bcast_S_S2048),
    binary main_v38 main_v41 main_v42 (addi),
    ternary main_v40 main_v42 main_v38 main_v43 (select),
    unary main_v43 main_v44 (broadcastInDim S2048x1 ![0] bcast_S2048_S2048x1_0),
    binary main_v13 main_v44 main_v45 ((fun x i => Host.gather gather_S2048x512_S2048x1_S2048x512_1_0_n_n_0_1_1512 x i)),
    binary main_v8 main_v13 main_v46 (subf),
    nullary main_cst_8 (constant S_ .f32 0x358637BD#32),
    unary main_cst_8 main_v47 (broadcastInDim S2048x512 ![] bcast_S_S2048x512),
    binary main_v46 main_v47 main_v48 (addf),
    binary main_v48 main_v48 main_v49 (mulf),
    nullary main_cst_9 (constant S_ .f32 0x00000000#32),
    binary main_v49 main_cst_9 main_v50 ((fun x v => Host.reduceAdd x v reducesTo_S2048x512_S2048_d1 h_S_)),
    unary main_v50 main_v51 (Host.sqrt),
    binary main_v8 main_v45 main_v52 (subf),
    binary main_v52 main_v52 main_v53 (mulf),
    nullary main_cst_10 (constant S_ .f32 0x00000000#32),
    binary main_v53 main_cst_10 main_v54 ((fun x v => Host.reduceAdd x v reducesTo_S2048x512_S2048_d1 h_S_)),
    unary main_v54 main_v55 (Host.sqrt),
    binary main_v51 main_v51 main_v56 (mulf),
    binary main_v55 main_v55 main_v57 (mulf),
    binary main_v56 main_v57 main_v58 (subf),
    nullary main_cst_11 (constant S_ .f32 0x3E4CCCCD#32),
    unary main_cst_11 main_v59 (broadcastInDim S2048 ![] bcast_S_S2048),
    binary main_v58 main_v59 main_v60 (addf),
    TRef.nullary main_call4.cst (constant S_ .f32 0x00000000#32),
    TRef.unary main_call4.cst main_call4.v0 (broadcastInDim S2048 ![] bcast_S_S2048),
    TRef.binary (.of main_v60) main_call4.v0 main_call4.v1 maximumf,
    nullary main_cst_12 (constant S_ .f32 0x00000000#32),
    binary main_v61 main_cst_12 main_v62 ((fun x v => Host.reduceAdd x v reducesTo_S2048_S_d0 h_S_)),
    nullary main_cst_13 (constant S_ .f32 0x45000000#32),
    binary main_v62 main_cst_13 main_v63 (Host.divf) ]

set_option maxHeartbeats 4000000 in
theorem main_eq (c : Dev nD) : main (F := F) c = seq ops := by
  simp only [main, main_part0, main_part1, fn_norm.body, fn_where.body, fn_argmax.body, fn_relu.body, seq, bind_assoc, pure_bind]
  rfl

set_option maxHeartbeats 4000000 in
theorem out_eq (V : Valuation τ sig (Elt F)) :
    after ops V (main_v63 : DevRef τ sig) = out (V (main_arg0 : DevRef τ sig)) := by
  after_results_simp
  rfl

theorem arg_eq (V : Valuation τ sig (Elt F)) :
    after ops V (main_arg0 : DevRef τ sig) = V (main_arg0 : DevRef τ sig) := by
  simp only [after_cons, after_nil]
  rfl

theorem no_scopedRefs : (Finset.univ.filter fun b : Ref sig .tc => b.isScoped) = ∅ := by decide
theorem no_scopedSems : (Finset.univ.filter fun sm : SemLoc sig => sm.isScoped .tc) = ∅ := by decide

theorem ops_within : (ops : List (HloOp τ sig (Elt F))).Forall fun op => op.bufs ⊆ tcRefs τ sig :=
  ⟨unary_bufs_sub .., reshape_bufs_sub .., unary_bufs_sub .., reshape_bufs_sub .., binary_bufs_sub .., nullary_bufs_sub ..,
    binary_bufs_sub .., unary_bufs_sub .., unary_bufs_sub .., nullary_bufs_sub .., unary_bufs_sub .., binary_bufs_sub ..,
    unary_bufs_sub .., binary_bufs_sub .., binary_bufs_sub .., nullary_bufs_sub .., binary_bufs_sub .., unary_bufs_sub ..,
    unary_bufs_sub .., nullary_bufs_sub .., unary_bufs_sub .., binary_bufs_sub .., unary_bufs_sub .., binary_bufs_sub ..,
    binary_bufs_sub .., nullary_bufs_sub .., binary_bufs_sub .., binary_bufs_sub .., nullary_bufs_sub .., binary_bufs_sub ..,
    unary_bufs_sub .., binary_bufs_sub .., unary_bufs_sub .., unary_bufs_sub .., unary_bufs_sub .., unary_bufs_sub ..,
    binary_bufs_sub .., nullary_bufs_sub .., unary_bufs_sub .., binary_bufs_sub .., binary_bufs_sub .., nullary_bufs_sub ..,
    unary_bufs_sub .., binary_bufs_sub .., unary_bufs_sub .., unary_bufs_sub .., nullary_bufs_sub .., nullary_bufs_sub ..,
    nullary_bufs_sub .., unary_bufs_sub .., binary_bufs_sub .., binary_bufs_sub .., nullary_bufs_sub .., unary_bufs_sub ..,
    unary_bufs_sub .., ternary_bufs_sub .., nullary_bufs_sub .., nullary_bufs_sub .., nullary_bufs_sub .., quaternary_bufs_sub ..,
    quaternary_bufs_sub .., nullary_bufs_sub .., unary_bufs_sub .., binary_bufs_sub .., nullary_bufs_sub .., unary_bufs_sub ..,
    binary_bufs_sub .., ternary_bufs_sub .., unary_bufs_sub .., binary_bufs_sub .., binary_bufs_sub .., nullary_bufs_sub ..,
    unary_bufs_sub .., binary_bufs_sub .., binary_bufs_sub .., nullary_bufs_sub .., binary_bufs_sub .., unary_bufs_sub ..,
    binary_bufs_sub .., binary_bufs_sub .., nullary_bufs_sub .., binary_bufs_sub .., unary_bufs_sub .., binary_bufs_sub ..,
    binary_bufs_sub .., binary_bufs_sub .., nullary_bufs_sub .., unary_bufs_sub .., binary_bufs_sub .., nullary_bufs_sub ..,
    unary_bufs_sub .., binary_bufs_sub .., nullary_bufs_sub .., binary_bufs_sub .., nullary_bufs_sub .., binary_bufs_sub ..⟩

/-- Every execution ends, with each buffer at the operations' fold over what it held. -/
theorem runs (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq no_scopedRefs no_scopedSems defs main (fun _ => ops) main_eq (fun _ => ops_within) m ρ

end Cert.ReferenceIdeal.Hand

end
-- ==== Proof.Reals.lean ====
/-
The loss over the real numbers, and the few facts of extended-real arithmetic that both programs' values need:
the constants' values, finite sums and maxima of reals, the largest entry off the diagonal, and the arg-max fold.
-/
module

public import Idealize.ShloMosaic.PureOps.Ideal.Laws
public import Idealize.ShloMosaic.Lib.IdealHost

@[expose] public section

noncomputable section

namespace Cert.Loss

open Idealize.ShloMosaic
open scoped BigOperators

/-! ## Extended-real arithmetic on reals -/

theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem coe_max (a b : ℝ) : max (a : EReal) (b : EReal) = ((max a b : ℝ) : EReal) :=
  (EReal.coe_strictMono.monotone.map_max).symm

theorem div_coe_coe (a : ℝ) {b : ℝ} (hb : b ≠ 0) : Ideal.div (a : EReal) (b : EReal) = ((a / b : ℝ) : EReal) := by
  rw [Ideal.div_coe hb, ← EReal.coe_mul, mul_one_div]

theorem sqrt_coe_of_nonneg {a : ℝ} (ha : 0 ≤ a) : Ideal.sqrt (a : EReal) = ((Real.sqrt a : ℝ) : EReal) := by
  rw [Ideal.sqrt_coe, if_neg (not_lt.mpr ha)]

theorem rsqrt_coe_of_pos {a : ℝ} (ha : 0 < a) : Ideal.rsqrt (a : EReal) = (((Real.sqrt a)⁻¹ : ℝ) : EReal) := by
  rw [Ideal.rsqrt_coe, if_neg (not_lt.mpr ha.le), if_neg ha.ne']

/-! ## The constants -/

/-- The offset added to a positive's differences, -/
def eps : ℝ := 8796093 * (2 : ℝ) ^ (-43 : Int)
/-- the margin, -/
def margin : ℝ := 13421773 * (2 : ℝ) ^ (-26 : Int)
/-- the bound below a row's sum of squares, -/
def low : ℝ := 10141205 * (2 : ℝ) ^ (-103 : Int)
/-- and the bound below a row's norm. -/
def lowNorm : ℝ := 9223372 * (2 : ℝ) ^ (-63 : Int)

theorem bits_eps : Ideal.ofBits .f32 0x358637BD#32 = (eps : EReal) := by
  simp [Ideal.ofBits, Ideal.ieee, eps, -EReal.coe_mul]
theorem bits_margin : Ideal.ofBits .f32 0x3E4CCCCD#32 = (margin : EReal) := by
  simp [Ideal.ofBits, Ideal.ieee, margin, -EReal.coe_mul]
theorem bits_low : Ideal.ofBits .f32 0x179ABE15#32 = (low : EReal) := by
  simp [Ideal.ofBits, Ideal.ieee, low, -EReal.coe_mul]
theorem bits_lowNorm : Ideal.ofBits .f32 0x2B8CBCCC#32 = (lowNorm : EReal) := by
  simp [Ideal.ofBits, Ideal.ieee, lowNorm, -EReal.coe_mul]
theorem bits_two : Ideal.ofBits .f32 0x40000000#32 = ((2 : ℝ) : EReal) := by
  simp [Ideal.ofBits, Ideal.ieee, -EReal.coe_mul]; norm_num
theorem bits_rows : Ideal.ofBits .f32 0x45000000#32 = ((2048 : ℝ) : EReal) := by
  simp [Ideal.ofBits, Ideal.ieee, -EReal.coe_mul]; norm_num
theorem bits_share : Ideal.ofBits .f32 0x3A000000#32 = ((1 / 2048 : ℝ) : EReal) := by
  simp [Ideal.ofBits, Ideal.ieee, -EReal.coe_mul]; norm_num
theorem bits_bot : Ideal.ofBits .f32 0xFF800000#32 = (⊥ : EReal) := by
  simp [Ideal.ofBits, Ideal.ieee]
theorem bits_top : Ideal.ofBits .f32 0x7F800000#32 = (⊤ : EReal) := by
  simp [Ideal.ofBits, Ideal.ieee]

theorem low_pos : 0 < low := by unfold low; positivity
theorem lowNorm_nonneg : 0 ≤ lowNorm := by unfold lowNorm; positivity
theorem lowNorm_sq_le : lowNorm * lowNorm ≤ low := by unfold low lowNorm; norm_num

/-! ## Rows -/

/-- A row over its norm. -/
def unit (u : Fin 512 → ℝ) (d : Fin 512) : ℝ := u d / Real.sqrt (∑ k, u k * u k)

/-- The product of two rows. -/
def dot (a p : Fin 512 → ℝ) : ℝ := ∑ d, a d * p d

theorem sumsq_nonneg (u : Fin 512 → ℝ) : 0 ≤ ∑ k, u k * u k := Finset.sum_nonneg fun k _ => mul_self_nonneg (u k)

theorem dot_unit (u : Fin 512 → ℝ) (h : 0 < ∑ k, u k * u k) : dot (unit u) (unit u) = 1 := by
  have hs : Real.sqrt (∑ k, u k * u k) * Real.sqrt (∑ k, u k * u k) = ∑ k, u k * u k := Real.mul_self_sqrt h.le
  unfold dot unit
  calc ∑ d, u d / Real.sqrt (∑ k, u k * u k) * (u d / Real.sqrt (∑ k, u k * u k))
      = ∑ d, u d * u d / (∑ k, u k * u k) := Finset.sum_congr rfl fun d _ => by rw [div_mul_div_comm, hs]
    _ = 1 := by rw [← Finset.sum_div, div_self h.ne']

theorem sum_sq_sub (a p : Fin 512 → ℝ) : ∑ d, (a d - p d) * (a d - p d) = dot a a + dot p p - 2 * dot a p := by
  unfold dot
  rw [Finset.mul_sum, ← Finset.sum_add_distrib, ← Finset.sum_sub_distrib]
  exact Finset.sum_congr rfl fun d _ => by ring

theorem two_sub_nonneg {a p : Fin 512 → ℝ} (ha : dot a a = 1) (hp : dot p p = 1) : 0 ≤ 2 - 2 * dot a p := by
  have h : 0 ≤ ∑ d, (a d - p d) * (a d - p d) := Finset.sum_nonneg fun d _ => mul_self_nonneg _
  rw [sum_sq_sub, ha, hp] at h
  linarith

/-! ## The largest entry off the diagonal -/

/-- `j` is a column other than `r` at which `c` is largest among those. -/
def Best (c : Fin 2048 → ℝ) (r j : Fin 2048) : Prop := j ≠ r ∧ ∀ k, k ≠ r → c k ≤ c j

theorem exists_best (c : Fin 2048 → ℝ) (r : Fin 2048) : ∃ j, Best c r j := by
  have hne : (Finset.univ.erase r : Finset (Fin 2048)).Nonempty := by
    by_cases h : r = 0
    · exact ⟨1, Finset.mem_erase.mpr ⟨by rw [h]; decide, Finset.mem_univ _⟩⟩
    · exact ⟨0, Finset.mem_erase.mpr ⟨fun e => h e.symm, Finset.mem_univ _⟩⟩
  obtain ⟨j, hj, hm⟩ := Finset.exists_max_image _ c hne
  exact ⟨j, (Finset.mem_erase.mp hj).1, fun k hk => hm k (Finset.mem_erase.mpr ⟨hk, Finset.mem_univ k⟩)⟩

/-- That column, one of them, -/
def far (c : Fin 2048 → ℝ) (r : Fin 2048) : Fin 2048 := (exists_best c r).choose
theorem far_best (c : Fin 2048 → ℝ) (r : Fin 2048) : Best c r (far c r) := (exists_best c r).choose_spec
/-- and the entry there, the same at every such column. -/
theorem Best.value {c : Fin 2048 → ℝ} {r j : Fin 2048} (h : Best c r j) : c j = c (far c r) :=
  le_antisymm ((far_best c r).2 j h.1) (h.2 _ (far_best c r).1)

/-- The fold of `max` over a row whose diagonal entry is minus infinity. -/
theorem fold_max_best (c : Fin 2048 → ℝ) (r : Fin 2048) (z : Fin 2048 → EReal)
    (hz : ∀ k, z k = if k = r then ⊥ else (c k : EReal)) :
    (Finset.univ : Finset (Fin 2048)).fold max ⊥ z = (c (far c r) : EReal) := by
  apply le_antisymm
  · rw [Finset.fold_max_le]
    refine ⟨bot_le, fun k _ => ?_⟩
    rw [hz]
    split
    · exact bot_le
    · rename_i h; exact EReal.coe_le_coe_iff.mpr ((far_best c r).2 k h)
  · rw [Finset.le_fold_max]
    exact .inr ⟨far c r, Finset.mem_univ _, by rw [hz, if_neg (far_best c r).1]⟩

/-! ## A fold that keeps the larger of two pairs -/

/-- A step that returns one of its two pairs, with a first part no less than either. -/
def Keeps {β : Type} (f : EReal × β → EReal × β → EReal × β) : Prop :=
  ∀ a b, (f a b = a ∨ f a b = b) ∧ a.1 ≤ (f a b).1 ∧ b.1 ≤ (f a b).1

theorem Keeps.foldl {β : Type} {f : EReal × β → EReal × β → EReal × β} (hf : Keeps f) :
    ∀ (L : List (EReal × β)) (i : EReal × β),
      (L.foldl f i = i ∨ L.foldl f i ∈ L) ∧ i.1 ≤ (L.foldl f i).1 ∧ ∀ q ∈ L, q.1 ≤ (L.foldl f i).1
  | [], i => ⟨.inl rfl, le_rfl, fun q hq => absurd hq List.not_mem_nil⟩
  | b :: L, i => by
    obtain ⟨h1, h2, h3⟩ := Keeps.foldl hf L (f i b)
    obtain ⟨g1, g2, g3⟩ := hf i b
    refine ⟨?_, g2.trans h2, fun q hq => ?_⟩
    · rcases h1 with h | h
      · rcases g1 with g | g
        · exact .inl (by rw [List.foldl_cons, h, g])
        · exact .inr (by rw [List.foldl_cons, h, g]; exact List.mem_cons_self)
      · exact .inr (List.mem_cons_of_mem _ h)
    · rcases List.mem_cons.mp hq with rfl | hq
      · exact g3.trans h2
      · exact h3 q hq

/-- Of a row of pairs whose values are minus infinity on the diagonal and real elsewhere, a pair no less than all of
    them, and one of them unless it is the start, stands at a largest entry off the diagonal. -/
theorem best_of_ge {β : Type} {q : EReal × β} {b₀ : β} {r : Fin 2048} {s : Fin 2048 → ℝ} {z : Fin 2048 → EReal}
    {w : Fin 2048 → β} (hz : ∀ k, z k = if k = r then ⊥ else (s k : EReal))
    (hq : q = (⊥, b₀) ∨ ∃ k, q = (z k, w k)) (hge : ∀ k, z k ≤ q.1) : ∃ j, Best s r j ∧ q.2 = w j := by
  have hfar := hge (far s r)
  rw [hz, if_neg (far_best s r).1] at hfar
  have hpos : (⊥ : EReal) < q.1 := lt_of_lt_of_le (EReal.bot_lt_coe _) hfar
  rcases hq with h | ⟨j, hj⟩
  · rw [h] at hpos; exact absurd hpos (lt_irrefl _)
  · have hjr : j ≠ r := fun e => by
      rw [hj] at hpos
      dsimp only at hpos
      rw [hz, if_pos e] at hpos
      exact absurd hpos (lt_irrefl _)
    refine ⟨j, ⟨hjr, fun k hk => ?_⟩, by rw [hj]⟩
    have hle := hge k
    rw [hj] at hle
    dsimp only at hle
    rw [hz, hz, if_neg hk, if_neg hjr] at hle
    exact EReal.coe_le_coe_iff.mp hle

/-! ## The loss -/

/-- The squared distance of an anchor from its positive, the offset added to every difference. -/
def posSq (a p : Fin 512 → ℝ) : ℝ := ∑ d, (a d - p d + eps) * (a d - p d + eps)

theorem posSq_nonneg (a p : Fin 512 → ℝ) : 0 ≤ posSq a p := Finset.sum_nonneg fun d _ => mul_self_nonneg _

/-- A row's term, of unit anchors `a` and unit positives `p`. -/
def term (a p : Fin 2048 → Fin 512 → ℝ) (r : Fin 2048) : ℝ :=
  max (posSq (a r) (p r) - (2 - 2 * dot (a r) (p (far (fun k => dot (a r) (p k)) r))) + margin) 0

/-- The mean of the rows' terms. -/
def loss (a p : Fin 2048 → Fin 512 → ℝ) : ℝ := (∑ r, term a p r) / 2048

end Cert.Loss

end
-- ==== Proof.KerValue.lean ====
/-
The kernel's payloads over the reals, each read at an index: the unit rows, a positive's squared distance, and what a
point of the second phase adds to the output.
-/
module

public import proofs.«01_k».proof.Proof.RunI
public import proofs.«01_k».proof.Proof.Reals
public import Idealize.ShloMosaic.Lib.Pointwise

@[expose] public section

set_option maxRecDepth 16384

noncomputable section

namespace Cert.KernelIdeal.Hand

open Idealize.ShloMosaic Idealize.ShloMosaic.TcCoe Idealize.SL.Sem
open Cert.KernelIdeal Cert.KernelIdeal.Gen Cert.Loss
open scoped BigOperators

/-- A plane of a block of 256 pairs holds the reals `u`. -/
def HoldsPlane (v : Vec Ideal S256x1x512 .f32) (u : Fin 256 → Fin 512 → ℝ) : Prop := ∀ r d, v (ix3 r 0 d) = (u r d : EReal)

theorem scaled {u : Fin 512 → ℝ} (hlow : low ≤ ∑ d, u d * u d) (d : Fin 512) :
    (u d : EReal) * Ideal.rsqrt (max ((∑ d, u d * u d : ℝ) : EReal) (Ideal.ofBits .f32 0x179ABE15#32)) = (unit u d : EReal) := by
  rw [bits_low, coe_max, max_eq_left hlow, rsqrt_coe_of_pos (low_pos.trans_le hlow), ← EReal.coe_mul]
  rfl

theorem pay4_apply {v : Vec Ideal S256x1x512 .f32} {u : Fin 256 → Fin 512 → ℝ} (h : HoldsPlane v u)
    (hlow : ∀ r, low ≤ ∑ d, u r d * u r d) (r : Fin 256) (d : Fin 512) : k0_pay4 v (ix2 r d) = (unit (u r) d : EReal) := by
  pointwise [k0_pay4]
  simp only [h r, ← EReal.coe_mul, coe_sum]
  exact scaled (hlow r) d

theorem pay5_apply {v : Vec Ideal S256x1x512 .f32} {u : Fin 256 → Fin 512 → ℝ} (h : HoldsPlane v u)
    (hlow : ∀ r, low ≤ ∑ d, u r d * u r d) (r : Fin 256) (d : Fin 512) : k0_pay5 v (ix2 r d) = (unit (u r) d : EReal) := by
  pointwise [k0_pay5]
  simp only [h r, ← EReal.coe_mul, coe_sum]
  exact scaled (hlow r) d

theorem pay6_apply {v : Vec Ideal S256x1x512 .f32} {u : Fin 256 → Fin 512 → ℝ} (h : HoldsPlane v u)
    (hlow : ∀ r, low ≤ ∑ d, u r d * u r d) (r : Fin 256) (d : Fin 512) : k0_pay6 v (ix2 r d) = (unit (u r) d : EReal) := by
  pointwise [k0_pay6]
  exact pay4_apply h hlow r d

theorem pay7_apply {v : Vec Ideal S256x1x512 .f32} {u : Fin 256 → Fin 512 → ℝ} (h : HoldsPlane v u)
    (hlow : ∀ r, low ≤ ∑ d, u r d * u r d) (r : Fin 256) (d : Fin 512) : k0_pay7 v (ix2 r d) = (unit (u r) d : EReal) := by
  pointwise [k0_pay7]
  exact pay5_apply h hlow r d

theorem pay8_apply {va vp : Vec Ideal S256x1x512 .f32} {a p : Fin 256 → Fin 512 → ℝ} (ha : HoldsPlane va a) (hp : HoldsPlane vp p)
    (hla : ∀ r, low ≤ ∑ d, a r d * a r d) (hlp : ∀ r, low ≤ ∑ d, p r d * p r d) (r : Fin 256) :
    k0_pay2 (k0_pay8 va vp) (ix2 r 0) = (posSq (unit (a r)) (unit (p r)) : EReal) := by
  pointwise [k0_pay2, k0_pay8]
  simp only [pay4_apply ha hla, pay5_apply hp hlp, bits_eps, ← EReal.coe_sub, ← EReal.coe_add, ← EReal.coe_mul, coe_sum]
  rfl

/-- Row `r` of band `q`. -/
def bandRow (q : Fin 8) (r : Fin 256) : Fin 2048 := ⟨256 * q.val + r.val, by omega⟩

theorem same_row (q : Fin 8) (r : Fin 256) (k : Fin 2048) :
    IntOp.cmpi .eq (IntOp.addi (Scalar.muli (BitVec.ofNat 32 q.val) 256#32) (BitVec.ofNat 32 r.val)) (BitVec.ofNat 32 k.val) = 1#1
      ↔ k = bandRow q r := by
  have e : IntOp.addi (Scalar.muli (BitVec.ofNat 32 q.val) 256#32) (BitVec.ofNat 32 r.val) = BitVec.ofNat 32 (bandRow q r).val := by
    apply BitVec.eq_of_toNat_eq
    simp only [IntOp.addi, Scalar.muli, IntOp.muli, bandRow, BitVec.toNat_add, BitVec.toNat_mul, BitVec.toNat_ofNat]
    omega
  rw [e]
  constructor
  · intro h
    have : BitVec.ofNat 32 (bandRow q r).val = BitVec.ofNat 32 k.val := by
      by_contra hne
      simp [IntOp.cmpi, beq_false_of_ne hne] at h
    have := congrArg BitVec.toNat this
    simp only [BitVec.toNat_ofNat] at this
    exact Fin.ext (by omega)
  · rintro rfl
    simp [IntOp.cmpi]

/-- What a point of the second phase leaves in the output: what it held and its band's share of the mean. -/
theorem pay3_apply (i : grid0.Coords) (q : Fin 8) (hq : (i 1).val = q.val) {l : Vec Ideal S256x512 .bf16} {w : Vec Ideal S2048x512 .bf16}
    {s : Vec Ideal S256x1 .f32} {o : Vec Ideal S1x1 .f32} {a p : Fin 2048 → Fin 512 → ℝ} {t : ℝ}
    (hl : ∀ r d, l (ix2 r d) = (a (bandRow q r) d : EReal)) (hw : ∀ r d, w (ix2 r d) = (p r d : EReal))
    (hs : ∀ r, s (ix2 r 0) = (posSq (a (bandRow q r)) (p (bandRow q r)) : EReal)) (ho : o (ix2 0 0) = (t : EReal))
    (ha : ∀ r, dot (a r) (a r) = 1) (hp : ∀ r, dot (p r) (p r) = 1) :
    k0_pay3 i l w s o (ix2 0 0) = ((t + (∑ r, term a p (bandRow q r)) * (1 / 2048) : ℝ) : EReal) := by
  pointwise [k0_pay3]
  simp only [hl, hw, hs, ho, hq, ← EReal.coe_mul, coe_sum, bits_two, bits_margin, bits_share, bits_bot]
  have hrow : ∀ r : Fin 256, (Finset.univ : Finset (Fin 2048)).fold max (⊥ : EReal) (fun k => Scalar.select
        (IntOp.cmpi .eq (IntOp.addi (Scalar.muli (BitVec.ofNat 32 q.val) 256#32) (BitVec.ofNat 32 r.val)) (BitVec.ofNat 32 k.val))
        ⊥ ((∑ d, a (bandRow q r) d * p k d : ℝ) : EReal))
      = (dot (a (bandRow q r)) (p (far (fun k => dot (a (bandRow q r)) (p k)) (bandRow q r))) : EReal) := fun r => by
    refine fold_max_best (fun k => dot (a (bandRow q r)) (p k)) (bandRow q r) _ fun k => ?_
    unfold Scalar.select
    by_cases hk : k = bandRow q r
    · rw [if_pos hk]; exact if_pos ((same_row q r k).mpr hk)
    · rw [if_neg hk]; exact if_neg (fun h => hk ((same_row q r k).mp h))
  simp only [hrow, ← EReal.coe_mul, ← EReal.coe_sub, ← EReal.coe_zero, coe_max, max_eq_left (two_sub_nonneg (ha _) (hp _)),
    ← EReal.coe_add, coe_sum]
  rfl

/-! ## What the kept buffers and the output hold -/

variable (m : (ℓ : Loc nD τ sig) → Buf (Elt Ideal) ℓ)

/-- The argument of device `c`. -/
def argOf (c : Dev nD) : FVec Ideal S2048x2x512 .f32 := m ((c : Thread nD τ).loc main_arg0)

theorem transform_fill : ∀ i : grid0.Coords, (i 0).val = 0 → cc0_transform_0 i = ![(i 1).val, 0, 0] := by decide +kernel

/-- A filling point's block of the argument, read at an index. -/
theorem iblk_apply (c : Dev nD) (t : Fin cfg0.N) (ht : t.val < 8) (q : Fin 8) (hq : t.val = q.val) (r : Fin 256) (w : Fin 2) (d : Fin 512) :
    iblk m c 0 t (ix3 r w d) = argOf m c (ix3 (bandRow q r) w d) := by
  have hi : win0_0.index t = ![t.val, 0, 0] := by
    show cc0_transform_0 (grid0.coords t) = _
    rw [transform_fill _ (by rw [coord0]; omega), coord1, Nat.mod_eq_of_lt ht]
  show argOf m c ((win0_0.rect t).emb (ix3 r w d)) = _
  refine congrArg _ (funext fun a => Fin.ext ?_)
  rw [Pipeline.Window.rect_emb_val win0_0 t (ix3 r w d) a, hi]
  match a with
  | ⟨0, _⟩ => show t.val * 256 + r.val = 256 * q.val + r.val; omega
  | ⟨1, _⟩ => show 0 * 2 + w.val = w.val; omega
  | ⟨2, _⟩ => show 0 * 512 + d.val = d.val; omega

theorem planeA_apply (x : Vec Ideal S256x2x512 .f32) (r : Fin 256) (d : Fin 512) : planeA x (ix3 r 0 d) = x (ix3 r 0 d) := by
  refine congrArg x (funext fun a => Fin.ext ?_)
  match a with
  | ⟨0, _⟩ => show 0 + 1 * r.val = r.val; omega
  | ⟨1, _⟩ => rfl
  | ⟨2, _⟩ => show 0 + 1 * d.val = d.val; omega

theorem planeP_apply (x : Vec Ideal S256x2x512 .f32) (r : Fin 256) (d : Fin 512) : planeP x (ix3 r 0 d) = x (ix3 r 1 d) := by
  refine congrArg x (funext fun a => Fin.ext ?_)
  match a with
  | ⟨0, _⟩ => show 0 + 1 * r.val = r.val; omega
  | ⟨1, _⟩ => rfl
  | ⟨2, _⟩ => show 0 + 1 * d.val = d.val; omega

/-- The band and the row in it that make up a row. -/
def bandOf (r : Fin 2048) : Fin 8 := ⟨r.val / 256, by omega⟩
theorem bandRow_of (r : Fin 2048) : bandRow (bandOf r) (rowOf r) = r := Fin.ext (Nat.div_add_mod r.val 256)
def bandEquiv : Fin 8 × Fin 256 ≃ Fin 2048 where
  toFun x := bandRow x.1 x.2
  invFun r := (bandOf r, rowOf r)
  left_inv x := Prod.ext (Fin.ext (by show (256 * x.1.val + x.2.val) / 256 = x.1.val; omega))
    (Fin.ext (by show (256 * x.1.val + x.2.val) % 256 = x.2.val; omega))
  right_inv r := bandRow_of r

/-- The argument of device `c` holds real pairs of rows, none too small to be normalised. -/
structure Rows (c : Dev nD) (a p : Fin 2048 → Fin 512 → ℝ) : Prop where
  anchor : ∀ r d, argOf m c (ix3 r 0 d) = (a r d : EReal)
  positive : ∀ r d, argOf m c (ix3 r 1 d) = (p r d : EReal)
  low_anchor : ∀ r, low ≤ ∑ d, a r d * a r d
  low_positive : ∀ r, low ≤ ∑ d, p r d * p r d

variable {m} {c : Dev nD} {a p : Fin 2048 → Fin 512 → ℝ}

theorem Rows.planeA (h : Rows m c a p) (r : Fin 2048) :
    HoldsPlane (planeA (iblk m c 0 (ptOf r))) (fun k => a (bandRow (bandOf r) k)) := fun k d => by
  rw [planeA_apply, iblk_apply m c (ptOf r) (bandOf r).isLt (bandOf r) rfl, h.anchor]
theorem Rows.planeP (h : Rows m c a p) (r : Fin 2048) :
    HoldsPlane (planeP (iblk m c 0 (ptOf r))) (fun k => p (bandRow (bandOf r) k)) := fun k d => by
  rw [planeP_apply, iblk_apply m c (ptOf r) (bandOf r).isLt (bandOf r) rfl, h.positive]

theorem Rows.keptA (h : Rows m c a p) (r : Fin 2048) (d : Fin 512) : keptA m c (ix2 r d) = (unit (a r) d : EReal) := by
  have e := pay6_apply (h.planeA r) (fun k => h.low_anchor _) (rowOf r) d
  rw [bandRow_of] at e
  exact e
theorem Rows.keptP (h : Rows m c a p) (r : Fin 2048) (d : Fin 512) : keptP m c (ix2 r d) = (unit (p r) d : EReal) := by
  have e := pay7_apply (h.planeP r) (fun k => h.low_positive _) (rowOf r) d
  rw [bandRow_of] at e
  exact e
theorem Rows.keptS (h : Rows m c a p) (r : Fin 2048) : keptS m c (ix2 r 0) = (posSq (unit (a r)) (unit (p r)) : EReal) := by
  have e := pay8_apply (h.planeA r) (h.planeP r) (fun k => h.low_anchor _) (fun k => h.low_positive _) (rowOf r)
  rw [bandRow_of] at e
  exact e

theorem ld_band3 (i : grid0.Coords) (h3 : k0_cond3 i = 1#1) (q : Fin 8) (hq : (i 1).val = q.val) (f : Vec Ideal S2048x512 .bf16)
    (r : Fin 256) (d : Fin 512) : View.ld f (band3 i h3) (ix2 r d) = f (ix2 (bandRow q r) d) := by
  refine congrArg f (funext fun a => Fin.ext ?_)
  have e := k0_off3_eq i
  match a with
  | ⟨0, _⟩ => show k0_off3 i 0 + 1 * r.val = 256 * q.val + r.val; rw [e, ← hq]; show 256 * (i 1).val + 1 * r.val = _; omega
  | ⟨1, _⟩ => show k0_off3 i 1 + 1 * d.val = d.val; rw [e]; show 0 + 1 * d.val = _; omega

theorem ld_band4 (i : grid0.Coords) (h3 : k0_cond3 i = 1#1) (q : Fin 8) (hq : (i 1).val = q.val) (f : Vec Ideal S2048x1 .f32)
    (r : Fin 256) : View.ld f (band4 i h3) (ix2 r 0) = f (ix2 (bandRow q r) 0) := by
  refine congrArg f (funext fun a => Fin.ext ?_)
  have e := k0_off4_eq i
  match a with
  | ⟨0, _⟩ => show k0_off4 i 0 + 1 * r.val = 256 * q.val + r.val; rw [e, ← hq]; show 256 * (i 1).val + 1 * r.val = _; omega
  | ⟨1, _⟩ => show k0_off4 i 1 + 1 * 0 = 0; rw [e]; rfl

/-- The terms of the unit rows. -/
abbrev rowTerm (a p : Fin 2048 → Fin 512 → ℝ) : Fin 2048 → ℝ := term (fun r => unit (a r)) (fun r => unit (p r))

/-- The share of the mean that the first `n` bands have. -/
def upTo (a p : Fin 2048 → Fin 512 → ℝ) (n : ℕ) : ℝ :=
  ∑ q : Fin 8, if q.val < n then (∑ r, rowTerm a p (bandRow q r)) * (1 / 2048) else 0

theorem upTo_zero : upTo a p 0 = 0 := by simp [upTo]
theorem upTo_succ (q : Fin 8) : upTo a p (q.val + 1) = upTo a p q.val + (∑ r, rowTerm a p (bandRow q r)) * (1 / 2048) := by
  unfold upTo
  have e : ∀ k : Fin 8, (if k.val < q.val + 1 then (∑ r, rowTerm a p (bandRow k r)) * (1 / 2048) else 0)
      = (if k.val < q.val then (∑ r, rowTerm a p (bandRow k r)) * (1 / 2048) else 0)
        + (if k = q then (∑ r, rowTerm a p (bandRow k r)) * (1 / 2048) else 0) := fun k => by
    rcases lt_trichotomy k.val q.val with h | h | h
    · rw [if_pos (by omega), if_pos h, if_neg (fun e => by rw [e] at h; omega), add_zero]
    · rw [if_pos (by omega), if_neg (by omega), if_pos (Fin.ext h), zero_add]
    · rw [if_neg (by omega), if_neg (by omega), if_neg (fun e => by rw [e] at h; omega), add_zero]
  rw [Finset.sum_congr rfl (fun k _ => e k), Finset.sum_add_distrib, Finset.sum_ite_eq' Finset.univ q, if_pos (Finset.mem_univ q)]

/-- All eight bands have the whole mean. -/
theorem upTo_all : upTo a p 8 = loss (fun r => unit (a r)) (fun r => unit (p r)) := by
  unfold upTo loss
  rw [Finset.sum_congr rfl (fun (q : Fin 8) _ => if_pos q.isLt), ← Finset.sum_mul, mul_one_div]
  congr 1
  rw [← Fintype.sum_prod_type' (f := fun (q : Fin 8) (r : Fin 256) => rowTerm a p (bandRow q r))]
  exact Fintype.sum_equiv bandEquiv _ (rowTerm a p) fun _ => rfl

/-- The output after point `n`. -/
theorem Rows.acc (h : Rows m c a p) : ∀ (n : ℕ) (hn : n < cfg0.N), acc m c n hn (ix2 0 0) = (upTo a p (n + 1 - 8) : EReal)
  | 0, hn => by
    show k0_pay1 (F := Ideal) (ix2 0 0) = _
    rw [upTo_zero]
    pointwise [k0_pay1]
    rfl
  | n + 1, hn => by
    have hN : n + 1 < 16 := Nat.lt_of_lt_of_eq hn N_0
    by_cases h8 : n + 1 < 8
    · have e := acc_fill m c ⟨n + 1, hn⟩ (Nat.succ_ne_zero n) h8
      rw [e, show n + 1 + 1 - 8 = n + 1 - 8 by omega]
      exact Rows.acc h n _
    · have h3 := (cond3_iff ⟨n + 1, hn⟩).mpr (Nat.le_of_not_lt h8)
      have hq : (grid0.coords ⟨n + 1, hn⟩ 1).val = n + 1 - 8 := by rw [coord1]; show (n + 1) % 8 = _; omega
      have e := acc_sum m c ⟨n + 1, hn⟩ h3
      have e2 := pay3_apply (grid0.coords ⟨n + 1, hn⟩) ⟨n + 1 - 8, by omega⟩ hq (a := fun r => unit (a r)) (p := fun r => unit (p r))
        (fun r d => (ld_band3 _ h3 _ hq _ r d).trans (h.keptA _ d)) h.keptP (fun r => (ld_band4 _ h3 _ hq _ r).trans (h.keptS _))
        (Rows.acc h n (Nat.lt_of_succ_lt hn)) (fun r => dot_unit _ (low_pos.trans_le (h.low_anchor r)))
        (fun r => dot_unit _ (low_pos.trans_le (h.low_positive r)))
      refine (congrFun e (ix2 0 0)).trans (e2.trans ?_)
      rw [show n + 1 + 1 - 8 = (⟨n + 1 - 8, by omega⟩ : Fin 8).val + 1 by show _ = n + 1 - 8 + 1; omega, upTo_succ]

end Cert.KernelIdeal.Hand

end
-- ==== Proof.RefValue.lean ====
/-
The reference's value over the reals: where every row of the argument has a real sum of squares above the bound, it is
the loss of the rows over their norms.
-/
module

public import proofs.«01_k».proof.Proof.RefRun
public import proofs.«01_k».proof.Proof.Reals
public import Idealize.ShloMosaic.Lib.Pointwise
public import Idealize.ShloMosaic.Lib.ValueIdxCore
public import Idealize.ShloMosaic.Lib.IdealHost

@[expose] public section

set_option maxRecDepth 16384

noncomputable section

namespace Cert.ReferenceIdeal.Hand

open Idealize.ShloMosaic
open Cert.ReferenceIdeal Cert.ReferenceIdeal.Gen Cert.Loss
open scoped BigOperators

/-- An array of 2048 rows of 512 holds the reals `u`. -/
def Holds (y : FVec Ideal S2048x512 .f32) (u : Fin 2048 → Fin 512 → ℝ) : Prop := ∀ r d, y (ix2 r d) = (u r d : EReal)

theorem rowSq_apply {y : FVec Ideal S2048x512 .f32} {u : Fin 2048 → Fin 512 → ℝ} (h : Holds y u) (r : Fin 2048) :
    rowSq y (ix1 r) = ((∑ d, u r d * u r d : ℝ) : EReal) := by
  pointwise [rowSq]
  simp only [h r, ← EReal.coe_mul, coe_sum]

theorem unitRows_holds {y : FVec Ideal S2048x512 .f32} {u : Fin 2048 → Fin 512 → ℝ} (h : Holds y u)
    (hlow : ∀ r, low ≤ ∑ d, u r d * u r d) : Holds (unitRows y) (fun r => unit (u r)) := by
  intro r d
  pointwise [unitRows]
  have hpos := low_pos.trans_le (hlow r)
  have hle : lowNorm ≤ Real.sqrt (∑ d, u r d * u r d) :=
    Real.le_sqrt_of_sq_le (by rw [pow_two]; exact lowNorm_sq_le.trans (hlow r))
  rw [rowSq_apply h, sqrt_coe_of_nonneg hpos.le, bits_lowNorm, coe_max, max_eq_left hle, h r d,
    div_coe_coe _ (Real.sqrt_pos.mpr hpos).ne']
  rfl

theorem products_apply {a p : FVec Ideal S2048x512 .f32} {u v : Fin 2048 → Fin 512 → ℝ} (ha : Holds a u) (hp : Holds p v)
    (r k : Fin 2048) : products a p (ix2 r k) = (dot (u r) (v k) : EReal) := by
  pointwise [products]
  simp only [ha r, hp k, ← EReal.coe_mul, coe_sum]
  rfl

/-- The masked matrix of unit rows: minus the distance, and minus infinity on the diagonal. -/
theorem masked_apply {a p : FVec Ideal S2048x512 .f32} {u v : Fin 2048 → Fin 512 → ℝ} (ha : Holds a u) (hp : Holds p v)
    (hu : ∀ r, dot (u r) (u r) = 1) (hv : ∀ r, dot (v r) (v r) = 1) (r k : Fin 2048) :
    masked a p (ix2 r k) = if k = r then ⊥ else ((-Real.sqrt (2 - 2 * dot (u r) (v k)) : ℝ) : EReal) := by
  pointwise [masked, closeness, diagonal]
  have hn := two_sub_nonneg (hu r) (hv k)
  have hv1 : ∑ d, v k d * v k d = 1 := hv k
  have hu1 : ∑ d, u r d * u r d = 1 := hu r
  rw [rowSq_apply ha, rowSq_apply hp, products_apply ha hp, bits_two, bits_bot, hu1, hv1, ← EReal.coe_add, ← EReal.coe_mul,
    ← EReal.coe_sub, ← EReal.coe_zero, coe_max, show (1 + 1 : ℝ) = 2 by norm_num, max_eq_left hn, sqrt_coe_of_nonneg hn,
    ← EReal.coe_neg]
  by_cases hk : k = r
  · subst hk
    simp [Scalar.select, IntOp.cmpi, IntOp.addi]
  · have : BitVec.ofNat 32 (r : Nat) ≠ BitVec.ofNat 32 (k : Nat) := fun e => hk (Fin.ext (by
      have := congrArg BitVec.toNat e
      simp only [BitVec.toNat_ofNat] at this
      omega))
    rw [if_neg hk]
    simp [Scalar.select, IntOp.cmpi, IntOp.addi, beq_false_of_ne this]

/-- The reducer keeps the pair with the larger value. -/
theorem reducer_keeps : Keeps (reducer_argmax_f32_i32 (F := Ideal)) := by
  rintro ⟨x, i⟩ ⟨y, j⟩
  simp only [reducer_argmax_f32_i32, Ideal.cmpf_def, Ideal.cmp]
  rcases lt_trichotomy x y with h | h | h
  · simp [Scalar.select, IntOp.ori, IntOp.andi, h.le, h.ne, not_lt.mpr h.le]
  · subst h
    by_cases hij : i.slt j <;> simp [Scalar.select, IntOp.ori, IntOp.andi, IntOp.cmpi, hij]
  · simp [Scalar.select, IntOp.ori, IntOp.andi, h, h.le, h.ne']

/-- The index a reduction along the columns drops to. -/
theorem drop_row {n m : Nat} (h : (⟨2, ![n, m]⟩ : Shape).ReducesTo [1] ⟨1, ![n]⟩) (i : (⟨2, ![n, m]⟩ : Shape).Idx) (r : Fin n) :
    h.drop i = ix1 r ↔ (i 0).val = r.val := by
  constructor
  · exact fun e => congrArg (fun f => (f 0).val) e
  · intro e
    funext b
    obtain rfl : b = 0 := Subsingleton.elim _ _
    exact Fin.ext e

/-- An arg-reduction along the columns by such a step: a pair of the row or the start, no less than any of the row. -/
theorem argReduce_row {n m : Nat} {β : Type} {u : Shape} (f : Ideal .f32 × β → Ideal .f32 × β → Ideal .f32 × β) (hf : Keeps f)
    (z : FVec Ideal ⟨2, ![n, m]⟩ .f32) (y : (⟨2, ![n, m]⟩ : Shape).Idx → β) (ix : u.Idx → Ideal .f32) (iy : u.Idx → β)
    (h : (⟨2, ![n, m]⟩ : Shape).ReducesTo [1] ⟨1, ![n]⟩) (hu : 0 < u.numel) (r : Fin n) :
    (Host.argReduce f z y ix iy h hu (ix1 r) = (ix (Shape.Idx.first hu), iy (Shape.Idx.first hu))
      ∨ ∃ k : Fin m, Host.argReduce f z y ix iy h hu (ix1 r) = (z (ix2 r k), y (ix2 r k)))
    ∧ ∀ k : Fin m, z (ix2 r k) ≤ (Host.argReduce f z y ix iy h hu (ix1 r)).1 := by
  rw [Ideal.argReduce_eq_reduce2, Host.reduce2_eq_foldl_fiber]
  have hmem : ∀ q, q ∈ Host.argReduceFiber z y h (ix1 r) ↔ ∃ k : Fin m, q = (z (ix2 r k), y (ix2 r k)) := fun q => by
    unfold Host.argReduceFiber
    simp only [List.mem_map, List.mem_filter, List.mem_finRange, true_and, decide_eq_true_eq, drop_row]
    constructor
    · rintro ⟨k, hk, rfl⟩
      generalize (⟨2, ![n, m]⟩ : Shape).rowMajor.symm k = i at hk
      obtain ⟨l, hl⟩ : ∃ l : Fin m, i = ix2 r l := ⟨i 1, by
        funext a
        match a with
        | ⟨0, _⟩ => exact Fin.ext hk
        | ⟨1, _⟩ => rfl⟩
      exact ⟨l, by rw [hl]⟩
    · rintro ⟨k, rfl⟩
      exact ⟨(⟨2, ![n, m]⟩ : Shape).rowMajor (ix2 r k), by rw [Equiv.symm_apply_apply]; rfl, by rw [Equiv.symm_apply_apply]⟩
  obtain ⟨h1, -, h3⟩ := hf.foldl (Host.argReduceFiber z y h (ix1 r)) (ix (Shape.Idx.first hu), iy (Shape.Idx.first hu))
  exact ⟨h1.imp id (hmem _).mp, fun k => h3 (z (ix2 r k), y (ix2 r k)) ((hmem _).mpr ⟨k, rfl⟩)⟩

theorem seconds_apply {s : Shape} {α β : Type} (v : s.Idx → α × β) (j : s.Idx) : seconds v j = (v j).2 := rfl

/-- The arg-max of a row is the column of a largest entry off the diagonal. -/
theorem hardest_apply {z : FVec Ideal S2048x2048 .f32} {s : Fin 2048 → Fin 2048 → ℝ}
    (hz : ∀ r k, z (ix2 r k) = if k = r then ⊥ else (s r k : EReal)) (r : Fin 2048) :
    ∃ j, Best (s r) r j ∧ hardest z (ix1 r) = BitVec.ofNat 32 j := by
  obtain ⟨h1, h2⟩ := argReduce_row reducer_argmax_f32_i32 reducer_keeps z (iotaInDim S2048x2048 32 1)
    (constant S_ .f32 0xFF800000#32) (constantI S_ 32 0#32) reducesTo_S2048x2048_S2048_d1 h_S_ r
  rw [show (constant (F := Ideal) S_ .f32 0xFF800000#32) (Shape.Idx.first h_S_) = (⊥ : EReal) from bits_bot] at h1
  obtain ⟨j, hj, hq⟩ := best_of_ge (w := fun k => iotaInDim S2048x2048 32 1 (ix2 r k)) (hz r) h1 h2
  refine ⟨j, hj, ?_⟩
  rw [hardest, seconds_apply, hq]
  pointwise []

theorem toInt_small {j : Nat} (hj : j < 2048) : (BitVec.ofNat 32 j).toInt = j := by
  rw [BitVec.toInt_eq_toNat_of_lt (by rw [BitVec.toNat_ofNat]; omega), BitVec.toNat_ofNat]
  omega

/-- The gathered row `r` is the row its index names. -/
theorem rowsAt_apply (p : FVec Ideal S2048x512 .f32) (k : IVec S2048 32) (r j : Fin 2048) (hk : k (ix1 r) = BitVec.ofNat 32 j)
    (d : Fin 512) : rowsAt p k (ix2 r d) = p (ix2 j d) := by
  have hw : wrapped k (ix1 r) = BitVec.ofNat 32 j := by
    pointwise [wrapped]
    rw [hk]
    have : (BitVec.ofNat 32 (j : Nat)).slt 0#32 = false := by
      rw [BitVec.slt, toInt_small j.isLt]; simp
    simp [Scalar.select, IntOp.cmpi, this]
  have hidx : broadcastInDim S2048x1 ![0] bcast_S2048_S2048x1_0 (wrapped k) (ix2 r 0) = BitVec.ofNat 32 j := by
    pointwise []
    exact hw
  unfold rowsAt
  generalize broadcastInDim S2048x1 ![0] bcast_S2048_S2048x1_0 (wrapped k) = idx at hidx ⊢
  unfold Host.gather
  congr 1
  funext a
  refine Fin.ext ?_
  show gather_S2048x512_S2048x1_S2048x512_1_0_n_n_0_1_1512.start _ _ a
    + gather_S2048x512_S2048x1_S2048x512_1_0_n_n_0_1_1512.batchCoord _ a
    + gather_S2048x512_S2048x1_S2048x512_1_0_n_n_0_1_1512.offCoord _ a = _
  rw [GatherDims.batchCoord_eq_zero _ _ _ List.not_mem_nil, Nat.add_zero]
  have h01 : a = 0 ∨ a = 1 := by
    match a with
    | ⟨0, _⟩ => exact .inl rfl
    | ⟨1, _⟩ => exact .inr rfl
  rcases h01 with rfl | rfl
  · rw [GatherDims.offCoord_eq_zero _ _ _ (fun h => ((GatherDims.mem_sKept _ _).mp h).1 (List.mem_singleton.mpr rfl)), Nat.add_zero]
    unfold GatherDims.start
    rw [dif_pos (show (0 : Fin 2) ∈ gather_S2048x512_S2048x1_S2048x512_1_0_n_n_0_1_1512.startIndexMap from List.mem_singleton.mpr rfl)]
    have hsi : gather_S2048x512_S2048x1_S2048x512_1_0_n_n_0_1_1512.siIdx (ix2 r d)
        ⟨List.idxOf (0 : Fin 2) gather_S2048x512_S2048x1_S2048x512_1_0_n_n_0_1_1512.startIndexMap,
          List.idxOf_lt_length_iff.2 (List.mem_singleton.mpr rfl)⟩ = ix2 r 0 := by
      funext b
      refine Fin.ext ?_
      match b with
      | ⟨0, _⟩ => rfl
      | ⟨1, _⟩ => rfl
    rw [hsi, hidx, toInt_small j.isLt]
    show min ((j : ℕ) : ℤ).toNat (2048 - 1) = j.val
    rw [Int.toNat_natCast]
    omega
  · unfold GatherDims.start
    rw [dif_neg (show (1 : Fin 2) ∉ gather_S2048x512_S2048x1_S2048x512_1_0_n_n_0_1_1512.startIndexMap from
      fun h => absurd (List.mem_singleton.mp h) (by decide)), Nat.zero_add]
    unfold GatherDims.offCoord
    rw [dif_pos ((GatherDims.mem_sKept _ _).mpr ⟨fun h => absurd (List.mem_singleton.mp h) (by decide), List.not_mem_nil⟩)]
    rfl

theorem posDist_apply {a p : FVec Ideal S2048x512 .f32} {u v : Fin 2048 → Fin 512 → ℝ} (ha : Holds a u) (hp : Holds p v)
    (r : Fin 2048) : posDist a p (ix1 r) = (Real.sqrt (posSq (u r) (v r)) : EReal) := by
  pointwise [posDist, rowSq]
  simp only [ha r, hp r, bits_eps, ← EReal.coe_sub, ← EReal.coe_add, ← EReal.coe_mul, coe_sum]
  exact sqrt_coe_of_nonneg (posSq_nonneg _ _)

theorem negDist_apply {a n : FVec Ideal S2048x512 .f32} {u : Fin 2048 → Fin 512 → ℝ} {w : Fin 512 → ℝ} (ha : Holds a u)
    (r : Fin 2048) (hn : ∀ d, n (ix2 r d) = (w d : EReal)) (hu : dot (u r) (u r) = 1) (hw : dot w w = 1) :
    negDist a n (ix1 r) = (Real.sqrt (2 - 2 * dot (u r) w) : EReal) := by
  pointwise [negDist, rowSq]
  simp only [ha r, hn, ← EReal.coe_sub, ← EReal.coe_mul, coe_sum]
  rw [sum_sq_sub, hu, hw, show (1 + 1 : ℝ) = 2 by norm_num]
  exact sqrt_coe_of_nonneg (two_sub_nonneg hu hw)

theorem lossOf_apply {a p : FVec Ideal S2048x512 .f32} {u v : Fin 2048 → Fin 512 → ℝ} (ha : Holds a u) (hp : Holds p v)
    (hu : ∀ r, dot (u r) (u r) = 1) (hv : ∀ r, dot (v r) (v r) = 1) : lossOf a p = fun _ => ((loss u v : ℝ) : EReal) := by
  have hrow : ∀ r : Fin 2048, hinge (posDist a p) (negDist a (rowsAt p (hardest (masked a p)))) (ix1 r)
      = (term u v r : EReal) := fun r => by
    obtain ⟨j, hj, hi⟩ := hardest_apply (masked_apply ha hp hu hv) r
    have hbest : Best (fun k => dot (u r) (v k)) r j := ⟨hj.1, fun k hk => by
      have h1 := neg_le_neg_iff.mp (hj.2 k hk)
      have h2 := (Real.sqrt_le_sqrt_iff (two_sub_nonneg (hu r) (hv k))).mp h1
      linarith⟩
    have hn : ∀ d, rowsAt p (hardest (masked a p)) (ix2 r d) = (v j d : EReal) := fun d => by
      rw [rowsAt_apply p _ r j hi, hp j d]
    pointwise [hinge]
    rw [posDist_apply ha hp, negDist_apply ha r hn (hu r) (hv j), bits_margin, ← EReal.coe_mul, ← EReal.coe_mul,
      Real.mul_self_sqrt (posSq_nonneg _ _), Real.mul_self_sqrt (two_sub_nonneg (hu r) (hv j)), ← EReal.coe_sub,
      ← EReal.coe_add, ← EReal.coe_zero, coe_max, hbest.value]
    rfl
  funext i
  pointwise [lossOf, mean]
  simp only [hrow, coe_sum, bits_rows]
  exact div_coe_coe _ (by norm_num)

/-- The reference's value. -/
theorem out_eq_loss (x : FVec Ideal S2048x2x512 .f32) (a p : Fin 2048 → Fin 512 → ℝ)
    (ha : ∀ r d, x (ix3 r 0 d) = (a r d : EReal)) (hp : ∀ r d, x (ix3 r 1 d) = (p r d : EReal))
    (hla : ∀ r, low ≤ ∑ d, a r d * a r d) (hlp : ∀ r, low ≤ ∑ d, p r d * p r d) :
    out x = fun _ => ((loss (fun r => unit (a r)) (fun r => unit (p r)) : ℝ) : EReal) := by
  have h1 : Holds (anchors x) a := fun r d => by
    pointwise [anchors]
    exact ha r d
  have h2 : Holds (positives x) p := fun r d => by
    pointwise [positives]
    exact hp r d
  exact lossOf_apply (unitRows_holds h1 hla) (unitRows_holds h2 hlp)
    (fun r => dot_unit _ (low_pos.trans_le (hla r))) (fun r => dot_unit _ (low_pos.trans_le (hlp r)))

end Cert.ReferenceIdeal.Hand

end
-- ==== Proof.Value.lean ====
/-
The value claim. The precondition gives real rows; of real rows the kernel's result and the reference's are the same
loss.
-/
module

public import proofs.«01_k».proof.Defs
public import proofs.«01_k».proof.Proof.KerValue
public import proofs.«01_k».proof.Proof.RefValue
public import proofs.«01_k».proof.Proof.Gen.Pre_rows_normalisable

@[expose] public section

set_option maxRecDepth 16384

noncomputable section

/-! ## The kernel's result -/

namespace Cert.KernelIdeal.Hand

open Idealize.ShloMosaic Idealize.ShloMosaic.TcCoe Idealize.SL.Sem
open Idealize.ShloMosaic.Pipeline (Dat)
open Cert.KernelIdeal Cert.KernelIdeal.Gen Cert.Loss

section Result
variable {F : FTy → Type} [FloatOps F] (m : (ℓ : Loc nD τ sig) → Buf (Elt F) ℓ)

theorem lt_last : 15 < cfg0.N := by rw [show cfg0.N = 16 from N_0]; omega
def lastPoint : Fin cfg0.N := ⟨15, lt_last⟩

theorem emb_out (t : Fin cfg0.N) (y : S1x1.Idx) : (win0_1.rect t).emb y = y := by
  refine funext fun a => Fin.ext ?_
  exact Pipeline.Window.rect_emb_val_of_index_zero win0_1 t a (by
    show cc0_transform_1 (grid0.coords t) a = 0
    match a with
    | ⟨0, _⟩ => rfl
    | ⟨1, _⟩ => rfl) y

/-- The output's array ends at what the last point leaves. -/
theorem final_out (c : Dev nD) : (dats m 0 c).arrAt 1 cfg0.N = acc m c 15 lt_last := by
  refine (dats m 0 c).arrAt_eq_of_cover 1 (acc m c 15 lt_last) (fun t hf => ?_) fun i => ⟨lastPoint, ?_, ?_⟩
  · have ht : t = lastPoint := Fin.ext (by
      have h1 := (flush0_1 t).mp hf
      have h2 : t.val < 16 := Nat.lt_of_lt_of_eq t.isLt N_0
      show t.val = 15; omega)
    subst ht
    show (cfg0.win 1).cut (grid0.coords lastPoint) ((dats m 0 c).after 1 lastPoint) = _
    rw [after_out]
    funext y
    show acc m c 15 lt_last _ = acc m c 15 lt_last ((win0_1.rect lastPoint).emb y)
    rw [emb_out]
  · exact (flush0_1 lastPoint).mpr rfl
  · show i ∈ ((View.whole main_v0).slice (win0_1.rect lastPoint)).set
    rw [View.set_slice_whole]
    exact (win0_1.rect lastPoint).map_emb_univ ▸ Finset.mem_map.mpr ⟨i, Finset.mem_univ _, emb_out lastPoint i⟩

/-- The result is that number as a scalar. -/
theorem tail_eq (c : Dev nD) : Pipeline.afterTail₀ cfgs (dats m) 0 (V0 m) [hostOps1] c main_v1
    = shapeCast S_ (acc m c 15 lt_last) shapeCasts_S1x1_S_ := by
  unfold Pipeline.afterTail₀
  simp only [List.flatten_cons, List.flatten_nil, List.append_nil, StableHlo.after_cons, StableHlo.after_nil]
  rw [StableHlo.reshape_result]
  have h := Pipeline.withArrays_arr spec0 launch0.win.arr_inj c (V0 m c) (fun w => (dats m 0 c).arrAt w cfg0.N) 1
  rw [final_out] at h
  funext i
  show shapeCast S_ (Pipeline.withArrays spec0 c (V0 m c) (fun w => (dats m 0 c).arrAt w cfg0.N) (Proc.devRef .tc (Pipeline.arrRef spec0 1))) shapeCasts_S1x1_S_ i = _
  rw [h]

end Result

end Cert.KernelIdeal.Hand

/-! ## The precondition -/

namespace Cert.Pre

open Idealize.ShloMosaic Cert.Loss
open scoped BigOperators

theorem sq_nonneg (x : EReal) : 0 ≤ x * x := by
  induction x using EReal.rec with
  | bot => simp
  | coe x => rw [← EReal.coe_mul]; exact EReal.coe_nonneg.mpr (mul_self_nonneg x)
  | top => simp

/-- A row whose sum of squares is finite is real. -/
theorem real_row (v : Fin 512 → EReal) (hl : (low : EReal) ≤ ∑ k, v k * v k) (ht : ∑ k, v k * v k < ⊤) :
    ∃ u : Fin 512 → ℝ, (∀ k, v k = (u k : EReal)) ∧ low ≤ ∑ k, u k * u k := by
  have hv : ∀ k, v k = ((v k).toReal : EReal) := fun k => by
    have h1 : v k * v k ≤ ∑ k, v k * v k := Finset.single_le_sum (f := fun k => v k * v k) (fun k _ => sq_nonneg (v k)) (Finset.mem_univ k)
    have h2 := h1.trans_lt ht
    refine (EReal.coe_toReal (fun e => ?_) (fun e => ?_)).symm
    · rw [e] at h2; simp at h2
    · rw [e] at h2; simp at h2
  refine ⟨fun k => (v k).toReal, hv, ?_⟩
  rw [← EReal.coe_le_coe_iff, ← coe_sum]
  refine hl.trans (le_of_eq (Finset.sum_congr rfl fun k _ => ?_))
  rw [EReal.coe_mul, ← hv k]

end Cert.Pre

namespace Cert.Pre_rows_normalisable

open Idealize.ShloMosaic Cert.Loss Cert.Pre_rows_normalisable.Gen
open scoped BigOperators

theorem row_of (x : FVec Ideal S2048x2x512 .f32) (h : fn (F := Ideal) x = fun _ => 1#1) (r : Fin 2048) (w : Fin 2) :
    ∃ u : Fin 512 → ℝ, (∀ d, x (ix3 r w d) = (u d : EReal)) ∧ low ≤ ∑ k, u k * u k := by
  have e := congrFun h (ix2 r w)
  revert e
  pointwise [fn]
  rw [bits_low, bits_top]
  intro e
  have e' : IntOp.andi (BitVec.ofBool (decide ((low : EReal) ≤ ∑ k, x (ix3 r w k) * x (ix3 r w k))))
      (BitVec.ofBool (decide (∑ k, x (ix3 r w k) * x (ix3 r w k) < (⊤ : EReal)))) = 1#1 := e
  have e1 : (low : EReal) ≤ ∑ k, x (ix3 r w k) * x (ix3 r w k) := by
    by_contra hn
    rw [decide_eq_false hn] at e'
    simp [IntOp.andi] at e'
  have e2 : ∑ k, x (ix3 r w k) * x (ix3 r w k) < (⊤ : EReal) := by
    by_contra hn
    rw [decide_eq_false hn] at e'
    simp [IntOp.andi] at e'
  exact Cert.Pre.real_row _ e1 e2

end Cert.Pre_rows_normalisable

/-! ## Both -/

namespace Cert.Value

open Idealize.ShloMosaic Idealize.ShloMosaic.TcCoe Idealize.SL.Sem Cert.Loss

/-- Under the precondition the argument of every device holds real pairs of rows. -/
theorem rows (m : (ℓ : Loc Cert.KernelIdeal.nD Cert.KernelIdeal.τ Cert.KernelIdeal.sig) → Buf (Elt Ideal) ℓ)
    (hpre : Pre_KernelIdeal_rows_normalisable m) (c : Dev Cert.KernelIdeal.nD) : ∃ a p, Cert.KernelIdeal.Hand.Rows m c a p := by
  have h := Cert.Pre_rows_normalisable.row_of (Cert.KernelIdeal.Hand.argOf m c) (hpre c)
  choose u hu hl using h
  exact ⟨fun r => u r 0, fun r => u r 1, fun r => hu r 0, fun r => hu r 1, fun r => hl r 0, fun r => hl r 1⟩

theorem kernel_result {m : (ℓ : Loc Cert.KernelIdeal.nD Cert.KernelIdeal.τ Cert.KernelIdeal.sig) → Buf (Elt Ideal) ℓ}
    {c : Dev Cert.KernelIdeal.nD} {a p : Fin 2048 → Fin 512 → ℝ} (h : Cert.KernelIdeal.Hand.Rows m c a p) :
    shapeCast Cert.KernelIdeal.S_ (Cert.KernelIdeal.Hand.acc m c 15 Cert.KernelIdeal.Hand.lt_last) Cert.KernelIdeal.Gen.shapeCasts_S1x1_S_
      = Cert.ReferenceIdeal.Hand.out (Cert.KernelIdeal.Hand.argOf m c) := by
  rw [Cert.ReferenceIdeal.Hand.out_eq_loss _ a p h.anchor h.positive h.low_anchor h.low_positive]
  funext i
  pointwise []
  rw [h.acc 15, Cert.KernelIdeal.Hand.upTo_all]

/-- The two programs end with the same result. -/
theorem algebraic : algebraic_KernelIdeal_ReferenceIdeal_pre_rows_normalisable := by
  intro m g m' g' hpre hagree
  refine ⟨fun c => Cert.ReferenceIdeal.Hand.out (Cert.KernelIdeal.Hand.argOf m c), ?_, ?_⟩
  · refine (θ_run Cert.KernelIdeal.defs _ _).mono (fun r h c => ⟨?_, h.2.1 c⟩)
      (θ_run_and (Cert.KernelIdeal.Hand.run m g) (Cert.KernelIdeal.Hand.kept m g))
    obtain ⟨a, p, hr⟩ := rows m hpre c
    exact ((h.1.1 c).2 Cert.KernelIdeal.main_v1 (by decide)).trans ((Cert.KernelIdeal.Hand.tail_eq m c).trans (kernel_result hr))
  · refine (θ_run Cert.ReferenceIdeal.defs _ _).mono (fun r h c => ⟨(h c Cert.ReferenceIdeal.main_v63).trans ?_,
      (h c Cert.ReferenceIdeal.main_arg0).trans (Cert.ReferenceIdeal.Hand.arg_eq _)⟩) (Cert.ReferenceIdeal.Hand.runs m' g')
    rw [Cert.ReferenceIdeal.Hand.out_eq]
    exact congrArg Cert.ReferenceIdeal.Hand.out (hagree c)

end Cert.Value

end
-- ==== Proof.lean ====
/- The certificate's claim, from its parts: the tracked run of the kernel as printed and of its ideal form (one text, for
   any floats), the reference's run, and the value claim. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_rows_normalisable
public import proofs.«01_k».proof.Proof.RunI
public import proofs.«01_k».proof.Proof.RunK
public import proofs.«01_k».proof.Proof.RefRun
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference keeps its argument; it has no semaphore. -/
theorem reference_kept (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD, r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0))
        ∧ r.2.sem = fun _ => 0) :=
  (θ_run Cert.ReferenceIdeal.defs _ _).mono
    (fun r h => ⟨fun c => (h c Cert.ReferenceIdeal.main_arg0).trans (Cert.ReferenceIdeal.Hand.arg_eq _),
      Idealize.ShloMosaic.sem_eq_zero_of_no_sems (by decide) r.2⟩) (Cert.ReferenceIdeal.Hand.runs m g)

theorem claim : Cert.Claim :=
  ⟨Cert.Kernel.Gen.facts, Cert.KernelIdeal.Gen.facts, Cert.ReferenceIdeal.Gen.facts, Cert.Pre_rows_normalisable.Gen.facts,
    fun m g _ => Cert.Kernel.Hand.kept m g, fun m g _ => Cert.KernelIdeal.Hand.kept m g, fun m g _ => Cert.KernelIdeal.Hand.kept m g,
    fun m g _ => reference_kept m g, fun m g _ => reference_kept m g, trivial, Cert.Value.algebraic⟩

end Cert.Proof

end
